-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_v170) = v1 c
          ∧ r.2.mem ((c.tc : Thread Cert.ReferenceIdeal.nD Cert.ReferenceIdeal.τ).loc Cert.ReferenceIdeal.main_v156) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x256 : Shape := ⟨2, ![16384, 256]⟩
abbrev S4x1024x256 : Shape := ⟨3, ![4, 1024, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S4x1024x256 : S_.BroadcastsInDim S4x1024x256 (![] : Fin 0 → Fin S4x1024x256.rank)
  reducesTo_S4x1024x256_S_d0_1_2 : S4x1024x256.ReducesTo [0, 1, 2] S_

variable [Facts]

def fn {F : FTy → Type} [FloatOps F] (main_arg0 : FVec F S16384x256 .f32) (main_arg1 : FVec F S4x1024x256 .f32) : IVec S_ 1 :=
  let main_cst : FVec F S_ .f32 := constant S_ .f32 0x7F800000#32
  let main_v0 : FVec F S16384x256 .f32 := broadcastInDim S16384x256 ![] bcast_S_S16384x256 main_cst
  let main_v1 : IVec S16384x256 1 := cmpf .olt main_arg0 main_v0
  let main_cst_0 : FVec F S_ .f32 := constant S_ .f32 0xFF800000#32
  let main_v2 : FVec F S16384x256 .f32 := broadcastInDim S16384x256 ![] bcast_S_S16384x256 main_cst_0
  let main_v3 : IVec S16384x256 1 := cmpf .ogt main_arg0 main_v2
  let main_v4 : IVec S16384x256 1 := andi main_v1 main_v3
  let main_c : IVec S_ 1 := constantI S_ 1 1#1
  let main_v5 : IVec S_ 1 := (fun x v => Host.reduce IntOp.andi x v reducesTo_S16384x256_S_d0_1 h_S_) main_v4 main_c
  let main_cst_1 : FVec F S_ .f32 := constant S_ .f32 0x7F800000#32
  let main_v6 : FVec F S4x1024x256 .f32 := broadcastInDim S4x1024x256 ![] bcast_S_S4x1024x256 main_cst_1
  let main_v7 : IVec S4x1024x256 1 := cmpf .olt main_arg1 main_v6
  let main_cst_2 : FVec F S_ .f32 := constant S_ .f32 0xFF800000#32
  let main_v8 : FVec F S4x1024x256 .f32 := broadcastInDim S4x1024x256 ![] bcast_S_S4x1024x256 main_cst_2
  let main_v9 : IVec S4x1024x256 1 := cmpf .ogt main_arg1 main_v8
  let main_v10 : IVec S4x1024x256 1 := andi main_v7 main_v9
  let main_c_3 : IVec S_ 1 := constantI S_ 1 1#1
  let main_v11 : IVec S_ 1 := (fun x v => Host.reduce IntOp.andi x v reducesTo_S4x1024x256_S_d0_1_2 h_S_) main_v10 main_c_3
  let main_v12 : IVec S_ 1 := andi main_v5 main_v11
  main_v12
-- ==== Kernel.lean ====
abbrev S16384x256 : Shape := ⟨2, ![16384, 256]⟩
abbrev S4x1024x256 : Shape := ⟨3, ![4, 1024, 256]⟩
abbrev S1x1024x256 : Shape := ⟨3, ![1, 1024, 256]⟩
abbrev S1024x256 : Shape := ⟨2, ![1024, 256]⟩
abbrev S1024 : Shape := ⟨1, ![1024]⟩
abbrev S1024x1 : Shape := ⟨2, ![1024, 1]⟩
abbrev S4x16384 : Shape := ⟨2, ![4, 16384]⟩
abbrev S1x1 : Shape := ⟨2, ![1, 1]⟩
abbrev S4x1024 : Shape := ⟨2, ![4, 1024]⟩
abbrev S1024x512 : Shape := ⟨2, ![1024, 512]⟩
abbrev S8x128x512 : Shape := ⟨3, ![8, 128, 512]⟩
abbrev S8x512 : Shape := ⟨2, ![8, 512]⟩
abbrev S512x256 : Shape := ⟨2, ![512, 256]⟩
abbrev S512 : Shape := ⟨1, ![512]⟩
abbrev S512x1 : Shape := ⟨2, ![512, 1]⟩
abbrev S1x512 : Shape := ⟨2, ![1, 512]⟩
abbrev S8x1x512 : Shape := ⟨3, ![8, 1, 512]⟩
abbrev S1x512x256 : Shape := ⟨3, ![1, 512, 256]⟩
abbrev S1 : Shape := ⟨1, ![1]⟩
abbrev S1x1x1 : Shape := ⟨3, ![1, 1, 1]⟩
abbrev S16384x4 : Shape := ⟨2, ![16384, 4]⟩
abbrev S_ : Shape := ⟨0, ![]⟩

abbrev nBuf : Space → Nat
  | .hbm => 12
  | .vmem => 14
  | .smem => 0
  | _ => 0

abbrev bufTy : (tb : Table) → Fin (tcTables nBuf tb) → BufTy
  | .hbm, ⟨0, _⟩ => ⟨S16384x256, .f32⟩
  | .hbm, ⟨1, _⟩ => ⟨S4x1024x256, .f32⟩
  | .hbm, ⟨2, _⟩ => ⟨S4x1024x256, .f32⟩
  | .hbm, ⟨3, _⟩ => ⟨S4x1024x256, .bf16⟩
  | .hbm, ⟨4, _⟩ => ⟨S4x1024x256, .bf16⟩
  | .hbm, ⟨5, _⟩ => ⟨S4x16384, .i32⟩
  | .hbm, ⟨6, _⟩ => ⟨S16384x256, .f32⟩
  | .hbm, ⟨7, _⟩ => ⟨S1x1, .f32⟩
  | .hbm, ⟨8, _⟩ => ⟨S16384x4, .i32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S4x1024x256, .f32⟩
  | .local _ .vmem, ⟨1, _⟩ => ⟨S4x1024x256, .f32⟩
  | .local _ .vmem, ⟨2, _⟩ => ⟨S4x1024x256, .bf16⟩
  | .local _ .vmem, ⟨3, _⟩ => ⟨S4x1024x256, .bf16⟩
  | .local _ .vmem, ⟨4, _⟩ => ⟨S1024x256, .f32⟩
  | .local _ .vmem, ⟨5, _⟩ => ⟨S1024x256, .f32⟩
  | .local _ .vmem, ⟨6, _⟩ => ⟨S4x1024x256, .f32⟩
  | .local _ .vmem, ⟨7, _⟩ => ⟨S4x1024x256, .bf16⟩
  | .local _ .vmem, ⟨8, _⟩ => ⟨S4x1024x256, .bf16⟩
  | .local _ .vmem, ⟨9, _⟩ => ⟨S4x1024, .i32⟩
  | .local _ .vmem, ⟨10, _⟩ => ⟨S4x1024, .i32⟩
  | .local _ .vmem, ⟨11, _⟩ => ⟨S1024x256, .f32⟩
  | .local _ .vmem, ⟨12, _⟩ => ⟨S1024x256, .f32⟩
  | .local _ .vmem, ⟨13, _⟩ => ⟨S1x1, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg4_1 : Ref sig .tc := ⟨.vmem, 10, rfl⟩
abbrev cc1_stg5_0 : Ref sig .tc := ⟨.vmem, 11, rfl⟩
abbrev cc1_stg5_1 : Ref sig .tc := ⟨.vmem, 12, rfl⟩
abbrev cc1_stg6_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem4_1 : DmaSem sig := 10
abbrev cc1_sem5_0 : DmaSem sig := 11
abbrev cc1_sem5_1 : DmaSem sig := 12
abbrev cc1_sem6_0 : DmaSem sig := 13

abbrev nD : Nat := 1
abbrev τ : Topo := Topo.v7x

variable {F : FTy → Type} [FloatOps F]

abbrev grid0 : Pipeline.Grid := .none

abbrev stage0_0 : Fin 1 → Memref sig .tc .vmem S4x1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x1024x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4x1024x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4x1024x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4x1024 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1024x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]
-- ==== ReferenceIdeal.lean ====
abbrev S16384x256 : Shape := ⟨2, ![16384, 256]⟩
abbrev S4x1024x256 : Shape := ⟨3, ![4, 1024, 256]⟩
abbrev S1x1024x256 : Shape := ⟨3, ![1, 1024, 256]⟩
abbrev S1024x256 : Shape := ⟨2, ![1024, 256]⟩
abbrev S_ : Shape := ⟨0, ![]⟩
abbrev S1024 : Shape := ⟨1, ![1024]⟩
abbrev S1024x1 : Shape := ⟨2, ![1024, 1]⟩
abbrev S16384 : Shape := ⟨1, ![16384]⟩
abbrev S16384x1 : Shape := ⟨2, ![16384, 1]⟩
abbrev S1x1024 : Shape := ⟨2, ![1, 1024]⟩
abbrev S16384x1024 : Shape := ⟨2, ![16384, 1024]⟩
abbrev S256x1024 : Shape := ⟨2, ![256, 1024]⟩
abbrev S1 : Shape := ⟨1, ![1]⟩
abbrev S1x1 : Shape := ⟨2, ![1, 1]⟩
abbrev S16384x4 : Shape := ⟨2, ![16384, 4]⟩
abbrev S1x16384x256 : Shape := ⟨3, ![1, 16384, 256]⟩
abbrev S4x16384x256 : Shape := ⟨3, ![4, 16384, 256]⟩

abbrev nBuf : Space → Nat
  | .hbm => 335
  | .vmem => 0
  | .smem => 0
  | _ => 0

abbrev hbmTy0_0 (i : Nat) : BufTy := match i % 128 with
  | 0 => ⟨S16384x256, .f32⟩
  | 1 => ⟨S4x1024x256, .f32⟩
  | 2 => ⟨S1x1024x256, .f32⟩
  | 3 => ⟨S1024x256, .f32⟩
  | 4 => ⟨S1024x256, .f32⟩
  | 5 => ⟨S_, .f32⟩
  | 6 => ⟨S1024, .f32⟩
  | 7 => ⟨S1024x1, .f32⟩
  | 8 => ⟨S1024x1, .f32⟩
  | 9 => ⟨S_, .f32⟩
  | 10 => ⟨S1024x1, .f32⟩
  | 11 => ⟨S1024x1, .f32⟩
  | 12 => ⟨S1024x256, .f32⟩
  | 13 => ⟨S1024x256, .f32⟩
  | 14 => ⟨S16384x256, .f32⟩
  | 15 => ⟨S_, .f32⟩
  | 16 => ⟨S16384, .f32⟩
  | 17 => ⟨S16384x1, .f32⟩
  | 18 => ⟨S1024x256, .f32⟩
  | 19 => ⟨S_, .f32⟩
  | 20 => ⟨S1024, .f32⟩
  | 21 => ⟨S1x1024, .f32⟩
  | 22 => ⟨S16384x1024, .f32⟩
  | 23 => ⟨S16384x1024, .f32⟩
  | 24 => ⟨S16384x1024, .f32⟩
  | 25 => ⟨S256x1024, .f32⟩
  | 26 => ⟨S16384x1024, .f32⟩
  | 27 => ⟨S_, .f32⟩
  | 28 => ⟨S16384x1024, .f32⟩
  | 29 => ⟨S16384x1024, .f32⟩
  | 30 => ⟨S16384x1024, .f32⟩
  | 31 => ⟨S_, .f32⟩
  | 32 => ⟨S16384x1024, .f32⟩
  | 33 => ⟨S16384x1024, .f32⟩
  | 34 => ⟨S16384x1024, .f32⟩
  | 35 => ⟨S16384x1024, .i32⟩
  | 36 => ⟨S_, .f32⟩
  | 37 => ⟨S_, .i32⟩
  | 38 => ⟨S16384, .f32⟩
  | 39 => ⟨S16384, .i32⟩
  | 40 => ⟨S_, .i32⟩
  | 41 => ⟨S16384, .i32⟩
  | 42 => ⟨S16384, .i1⟩
  | 43 => ⟨S_, .i32⟩
  | 44 => ⟨S16384, .i32⟩
  | 45 => ⟨S16384, .i32⟩
  | 46 => ⟨S16384, .i32⟩
  | 47 => ⟨S16384x1, .i32⟩
  | 48 => ⟨S1, .i32⟩
  | 49 => ⟨S_, .i32⟩
  | 50 => ⟨S16384x1, .i32⟩
  | 51 => ⟨S16384x1, .i1⟩
  | 52 => ⟨S1x1, .i32⟩
  | 53 => ⟨S16384x1, .i32⟩
  | 54 => ⟨S16384x1, .i1⟩
  | 55 => ⟨S16384x1, .i1⟩
  | 56 => ⟨S_, .i1⟩
  | 57 => ⟨S16384, .i1⟩
  | 58 => ⟨S16384x256, .f32⟩
  | 59 => ⟨S16384x256, .i1⟩
  | 60 => ⟨S_, .f32⟩
  | 61 => ⟨S16384x256, .f32⟩
  | 62 => ⟨S16384x256, .f32⟩
  | 63 => ⟨S16384x256, .f32⟩
  | 64 => ⟨S16384x256, .f32⟩
  | 65 => ⟨S_, .f32⟩
  | 66 => ⟨S_, .f32⟩
  | 67 => ⟨S_, .f32⟩
  | 68 => ⟨S_, .f32⟩
  | 69 => ⟨S16384x256, .f32⟩
  | 70 => ⟨S16384x256, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S16384x256, .f32⟩
  | 81 => ⟨S16384x256, .f32⟩
  | 82 => ⟨S16384x256, .f32⟩
  | 83 => ⟨S1x1024x256, .f32⟩
  | 84 => ⟨S1024x256, .f32⟩
  | 85 => ⟨S1024x256, .f32⟩
  | 86 => ⟨S_, .f32⟩
  | 87 => ⟨S1024, .f32⟩
  | 88 => ⟨S1024x1, .f32⟩
  | 89 => ⟨S1024x1, .f32⟩
  | 90 => ⟨S_, .f32⟩
  | 91 => ⟨S1024x1, .f32⟩
  | 92 => ⟨S1024x1, .f32⟩
  | 93 => ⟨S1024x256, .f32⟩
  | 94 => ⟨S1024x256, .f32⟩
  | 95 => ⟨S16384x256, .f32⟩
  | 96 => ⟨S_, .f32⟩
  | 97 => ⟨S16384, .f32⟩
  | 98 => ⟨S16384x1, .f32⟩
  | 99 => ⟨S1024x256, .f32⟩
  | 100 => ⟨S_, .f32⟩
  | 101 => ⟨S1024, .f32⟩
  | 102 => ⟨S1x1024, .f32⟩
  | 103 => ⟨S16384x1024, .f32⟩
  | 104 => ⟨S16384x1024, .f32⟩
  | 105 => ⟨S16384x1024, .f32⟩
  | 106 => ⟨S256x1024, .f32⟩
  | 107 => ⟨S16384x1024, .f32⟩
  | 108 => ⟨S_, .f32⟩
  | 109 => ⟨S16384x1024, .f32⟩
  | 110 => ⟨S16384x1024, .f32⟩
  | 111 => ⟨S16384x1024, .f32⟩
  | 112 => ⟨S_, .f32⟩
  | 113 => ⟨S16384x1024, .f32⟩
  | 114 => ⟨S16384x1024, .f32⟩
  | 115 => ⟨S16384x1024, .f32⟩
  | 116 => ⟨S16384x1024, .i32⟩
  | 117 => ⟨S_, .f32⟩
  | 118 => ⟨S_, .i32⟩
  | 119 => ⟨S16384, .f32⟩
  | 120 => ⟨S16384, .i32⟩
  | 121 => ⟨S_, .i32⟩
  | 122 => ⟨S16384, .i32⟩
  | 123 => ⟨S16384, .i1⟩
  | 124 => ⟨S_, .i32⟩
  | 125 => ⟨S16384, .i32⟩
  | 126 => ⟨S16384, .i32⟩
  | 127 => ⟨S16384, .i32⟩
  | _ => ⟨S16384x256, .f32⟩

abbrev hbmTy0_1 (i : Nat) : BufTy := match i % 128 with
  | 0 => ⟨S16384x1, .i32⟩
  | 1 => ⟨S1, .i32⟩
  | 2 => ⟨S_, .i32⟩
  | 3 => ⟨S16384x1, .i32⟩
  | 4 => ⟨S16384x1, .i1⟩
  | 5 => ⟨S1x1, .i32⟩
  | 6 => ⟨S16384x1, .i32⟩
  | 7 => ⟨S16384x1, .i1⟩
  | 8 => ⟨S16384x1, .i1⟩
  | 9 => ⟨S_, .i1⟩
  | 10 => ⟨S16384, .i1⟩
  | 11 => ⟨S16384x256, .f32⟩
  | 12 => ⟨S16384x256, .i1⟩
  | 13 => ⟨S_, .f32⟩
  | 14 => ⟨S16384x256, .f32⟩
  | 15 => ⟨S16384x256, .f32⟩
  | 16 => ⟨S16384x256, .f32⟩
  | 17 => ⟨S16384x256, .f32⟩
  | 18 => ⟨S_, .f32⟩
  | 19 => ⟨S_, .f32⟩
  | 20 => ⟨S_, .f32⟩
  | 21 => ⟨S_, .f32⟩
  | 22 => ⟨S16384x256, .f32⟩
  | 23 => ⟨S16384x256, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S16384x256, .f32⟩
  | 33 => ⟨S16384x256, .f32⟩
  | 34 => ⟨S16384x256, .f32⟩
  | 35 => ⟨S1x1024x256, .f32⟩
  | 36 => ⟨S1024x256, .f32⟩
  | 37 => ⟨S1024x256, .f32⟩
  | 38 => ⟨S_, .f32⟩
  | 39 => ⟨S1024, .f32⟩
  | 40 => ⟨S1024x1, .f32⟩
  | 41 => ⟨S1024x1, .f32⟩
  | 42 => ⟨S_, .f32⟩
  | 43 => ⟨S1024x1, .f32⟩
  | 44 => ⟨S1024x1, .f32⟩
  | 45 => ⟨S1024x256, .f32⟩
  | 46 => ⟨S1024x256, .f32⟩
  | 47 => ⟨S16384x256, .f32⟩
  | 48 => ⟨S_, .f32⟩
  | 49 => ⟨S16384, .f32⟩
  | 50 => ⟨S16384x1, .f32⟩
  | 51 => ⟨S1024x256, .f32⟩
  | 52 => ⟨S_, .f32⟩
  | 53 => ⟨S1024, .f32⟩
  | 54 => ⟨S1x1024, .f32⟩
  | 55 => ⟨S16384x1024, .f32⟩
  | 56 => ⟨S16384x1024, .f32⟩
  | 57 => ⟨S16384x1024, .f32⟩
  | 58 => ⟨S256x1024, .f32⟩
  | 59 => ⟨S16384x1024, .f32⟩
  | 60 => ⟨S_, .f32⟩
  | 61 => ⟨S16384x1024, .f32⟩
  | 62 => ⟨S16384x1024, .f32⟩
  | 63 => ⟨S16384x1024, .f32⟩
  | 64 => ⟨S_, .f32⟩
  | 65 => ⟨S16384x1024, .f32⟩
  | 66 => ⟨S16384x1024, .f32⟩
  | 67 => ⟨S16384x1024, .f32⟩
  | 68 => ⟨S16384x1024, .i32⟩
  | 69 => ⟨S_, .f32⟩
  | 70 => ⟨S_, .i32⟩
  | 71 => ⟨S16384, .f32⟩
  | 72 => ⟨S16384, .i32⟩
  | 73 => ⟨S_, .i32⟩
  | 74 => ⟨S16384, .i32⟩
  | 75 => ⟨S16384, .i1⟩
  | 76 => ⟨S_, .i32⟩
  | 77 => ⟨S16384, .i32⟩
  | 78 => ⟨S16384, .i32⟩
  | 79 => ⟨S16384, .i32⟩
  | 80 => ⟨S16384x1, .i32⟩
  | 81 => ⟨S1, .i32⟩
  | 82 => ⟨S_, .i32⟩
  | 83 => ⟨S16384x1, .i32⟩
  | 84 => ⟨S16384x1, .i1⟩
  | 85 => ⟨S1x1, .i32⟩
  | 86 => ⟨S16384x1, .i32⟩
  | 87 => ⟨S16384x1, .i1⟩
  | 88 => ⟨S16384x1, .i1⟩
  | 89 => ⟨S_, .i1⟩
  | 90 => ⟨S16384, .i1⟩
  | 91 => ⟨S16384x256, .f32⟩
  | 92 => ⟨S16384x256, .i1⟩
  | 93 => ⟨S_, .f32⟩
  | 94 => ⟨S16384x256, .f32⟩
  | 95 => ⟨S16384x256, .f32⟩
  | 96 => ⟨S16384x256, .f32⟩
  | 97 => ⟨S16384x256, .f32⟩
  | 98 => ⟨S_, .f32⟩
  | 99 => ⟨S_, .f32⟩
  | 100 => ⟨S_, .f32⟩
  | 101 => ⟨S_, .f32⟩
  | 102 => ⟨S16384x256, .f32⟩
  | 103 => ⟨S16384x256, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S16384x256, .f32⟩
  | 113 => ⟨S16384x256, .f32⟩
  | 114 => ⟨S16384x256, .f32⟩
  | 115 => ⟨S1x1024x256, .f32⟩
  | 116 => ⟨S1024x256, .f32⟩
  | 117 => ⟨S1024x256, .f32⟩
  | 118 => ⟨S_, .f32⟩
  | 119 => ⟨S1024, .f32⟩
  | 120 => ⟨S1024x1, .f32⟩
  | 121 => ⟨S1024x1, .f32⟩
  | 122 => ⟨S_, .f32⟩
  | 123 => ⟨S1024x1, .f32⟩
  | 124 => ⟨S1024x1, .f32⟩
  | 125 => ⟨S1024x256, .f32⟩
  | 126 => ⟨S1024x256, .f32⟩
  | 127 => ⟨S16384x256, .f32⟩
  | _ => ⟨S16384x256, .f32⟩

abbrev hbmTy0_2 (i : Nat) : BufTy := match i % 128 with
  | 0 => ⟨S_, .f32⟩
  | 1 => ⟨S16384, .f32⟩
  | 2 => ⟨S16384x1, .f32⟩
  | 3 => ⟨S1024x256, .f32⟩
  | 4 => ⟨S_, .f32⟩
  | 5 => ⟨S1024, .f32⟩
  | 6 => ⟨S1x1024, .f32⟩
  | 7 => ⟨S16384x1024, .f32⟩
  | 8 => ⟨S16384x1024, .f32⟩
  | 9 => ⟨S16384x1024, .f32⟩
  | 10 => ⟨S256x1024, .f32⟩
  | 11 => ⟨S16384x1024, .f32⟩
  | 12 => ⟨S_, .f32⟩
  | 13 => ⟨S16384x1024, .f32⟩
  | 14 => ⟨S16384x1024, .f32⟩
  | 15 => ⟨S16384x1024, .f32⟩
  | 16 => ⟨S_, .f32⟩
  | 17 => ⟨S16384x1024, .f32⟩
  | 18 => ⟨S16384x1024, .f32⟩
  | 19 => ⟨S16384x1024, .f32⟩
  | 20 => ⟨S16384x1024, .i32⟩
  | 21 => ⟨S_, .f32⟩
  | 22 => ⟨S_, .i32⟩
  | 23 => ⟨S16384, .f32⟩
  | 24 => ⟨S16384, .i32⟩
  | 25 => ⟨S_, .i32⟩
  | 26 => ⟨S16384, .i32⟩
  | 27 => ⟨S16384, .i1⟩
  | 28 => ⟨S_, .i32⟩
  | 29 => ⟨S16384, .i32⟩
  | 30 => ⟨S16384, .i32⟩
  | 31 => ⟨S16384, .i32⟩
  | 32 => ⟨S16384x1, .i32⟩
  | 33 => ⟨S1, .i32⟩
  | 34 => ⟨S_, .i32⟩
  | 35 => ⟨S16384x1, .i32⟩
  | 36 => ⟨S16384x1, .i1⟩
  | 37 => ⟨S1x1, .i32⟩
  | 38 => ⟨S16384x1, .i32⟩
  | 39 => ⟨S16384x1, .i1⟩
  | 40 => ⟨S16384x1, .i1⟩
  | 41 => ⟨S_, .i1⟩
  | 42 => ⟨S16384, .i1⟩
  | 43 => ⟨S16384x256, .f32⟩
  | 44 => ⟨S16384x256, .i1⟩
  | 45 => ⟨S_, .f32⟩
  | 46 => ⟨S16384x256, .f32⟩
  | 47 => ⟨S16384x256, .f32⟩
  | 48 => ⟨S16384x256, .f32⟩
  | 49 => ⟨S16384x256, .f32⟩
  | 50 => ⟨S_, .f32⟩
  | 51 => ⟨S_, .f32⟩
  | 52 => ⟨S_, .f32⟩
  | 53 => ⟨S_, .f32⟩
  | 54 => ⟨S16384x256, .f32⟩
  | 55 => ⟨S16384x256, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S16384x256, .f32⟩
  | 65 => ⟨S16384x256, .f32⟩
  | 66 => ⟨S16384x256, .f32⟩
  | 67 => ⟨S16384x1, .i32⟩
  | 68 => ⟨S16384x1, .i32⟩
  | 69 => ⟨S16384x1, .i32⟩
  | 70 => ⟨S16384x1, .i32⟩
  | 71 => ⟨S16384x4, .i32⟩
  | 72 => ⟨S1x16384x256, .f32⟩
  | 73 => ⟨S1x16384x256, .f32⟩
  | 74 => ⟨S1x16384x256, .f32⟩
  | 75 => ⟨S1x16384x256, .f32⟩
  | 76 => ⟨S4x16384x256, .f32⟩
  | 77 => ⟨S_, .f32⟩
  | 78 => ⟨S16384x256, .f32⟩
  | _ => ⟨S16384x256, .f32⟩

abbrev hbmTy (i : Nat) : BufTy := match i / 128 with
  | 0 => hbmTy0_0 i
  | 1 => hbmTy0_1 i
  | 2 => hbmTy0_2 i
  | _ => ⟨S16384x256, .f32⟩

abbrev bufTy : (tb : Table) → Fin (tcTables nBuf tb) → BufTy
  | .hbm, ⟨i, _⟩ => hbmTy i
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call1_v0 : Ref sig .tc := ⟨.hbm, 35, rfl⟩
abbrev main_call1_cst : Ref sig .tc := ⟨.hbm, 36, rfl⟩
abbrev main_call1_c : Ref sig .tc := ⟨.hbm, 37, rfl⟩
abbrev main_call1_v1_0 : Ref sig .tc := ⟨.hbm, 38, rfl⟩
abbrev main_v24 : Ref sig .tc := ⟨.hbm, 39, rfl⟩
abbrev main_call2_c : Ref sig .tc := ⟨.hbm, 40, rfl⟩
abbrev main_call2_v0 : Ref sig .tc := ⟨.hbm, 41, rfl⟩
abbrev main_call2_v1 : Ref sig .tc := ⟨.hbm, 42, rfl⟩
abbrev main_call2_c_0 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_v5 : Ref sig .tc := ⟨.hbm, 47, rfl⟩
abbrev main_call2_c_1 : Ref sig .tc := ⟨.hbm, 48, rfl⟩
abbrev main_call2_c_2 : Ref sig .tc := ⟨.hbm, 49, rfl⟩
abbrev main_call2_v6 : Ref sig .tc := ⟨.hbm, 50, rfl⟩
abbrev main_call2_v7 : Ref sig .tc := ⟨.hbm, 51, rfl⟩
abbrev main_call2_v8 : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_call2_c_3 : Ref sig .tc := ⟨.hbm, 56, rfl⟩
abbrev main_call2_v12 : Ref sig .tc := ⟨.hbm, 57, rfl⟩
abbrev main_call2_v13 : Ref sig .tc := ⟨.hbm, 58, rfl⟩
abbrev main_call2_v14 : Ref sig .tc := ⟨.hbm, 59, rfl⟩
abbrev main_call2_cst : Ref sig .tc := ⟨.hbm, 60, rfl⟩
abbrev main_call2_v15 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_cst_4 : Ref sig .tc := ⟨.hbm, 65, rfl⟩
abbrev main_v28 : Ref sig .tc := ⟨.hbm, 66, rfl⟩
abbrev main_cst_5 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_cst_6 : Ref sig .tc := ⟨.hbm, 71, rfl⟩
abbrev main_v32 : Ref sig .tc := ⟨.hbm, 72, rfl⟩
abbrev main_cst_7 : Ref sig .tc := ⟨.hbm, 73, rfl⟩
abbrev main_v33 : Ref sig .tc := ⟨.hbm, 74, rfl⟩
abbrev main_cst_8 : Ref sig .tc := ⟨.hbm, 75, rfl⟩
abbrev main_v34 : Ref sig .tc := ⟨.hbm, 76, rfl⟩
abbrev main_cst_9 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_call3_v0 : Ref sig .tc := ⟨.hbm, 85, rfl⟩
abbrev main_call3_cst : Ref sig .tc := ⟨.hbm, 86, rfl⟩
abbrev main_call3_v1 : Ref sig .tc := ⟨.hbm, 87, rfl⟩
abbrev main_call3_v2 : Ref sig .tc := ⟨.hbm, 88, rfl⟩
abbrev main_v42 : Ref sig .tc := ⟨.hbm, 89, rfl⟩
abbrev main_cst_10 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_cst_11 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_cst_12 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_cst_13 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_cst_14 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_call4_v0 : Ref sig .tc := ⟨.hbm, 116, rfl⟩
abbrev main_call4_cst : Ref sig .tc := ⟨.hbm, 117, rfl⟩
abbrev main_call4_c : Ref sig .tc := ⟨.hbm, 118, rfl⟩
abbrev main_call4_v1_0 : Ref sig .tc := ⟨.hbm, 119, rfl⟩
abbrev main_v64 : Ref sig .tc := ⟨.hbm, 120, rfl⟩
abbrev main_call5_c : Ref sig .tc := ⟨.hbm, 121, rfl⟩
abbrev main_call5_v0 : Ref sig .tc := ⟨.hbm, 122, rfl⟩
abbrev main_call5_v1 : Ref sig .tc := ⟨.hbm, 123, rfl⟩
abbrev main_call5_c_0 : Ref sig .tc := ⟨.hbm, 124, rfl⟩
abbrev main_call5_v2 : Ref sig .tc := ⟨.hbm, 125, rfl⟩
abbrev main_call5_v3 : Ref sig .tc := ⟨.hbm, 126, rfl⟩
abbrev main_call5_v4 : Ref sig .tc := ⟨.hbm, 127, rfl⟩
abbrev main_call5_v5 : Ref sig .tc := ⟨.hbm, 128, rfl⟩
abbrev main_call5_c_1 : Ref sig .tc := ⟨.hbm, 129, rfl⟩
abbrev main_call5_c_2 : Ref sig .tc := ⟨.hbm, 130, rfl⟩
abbrev main_call5_v6 : Ref sig .tc := ⟨.hbm, 131, rfl⟩
abbrev main_call5_v7 : Ref sig .tc := ⟨.hbm, 132, rfl⟩
abbrev main_call5_v8 : Ref sig .tc := ⟨.hbm, 133, rfl⟩
abbrev main_call5_v9 : Ref sig .tc := ⟨.hbm, 134, rfl⟩
abbrev main_call5_v10 : Ref sig .tc := ⟨.hbm, 135, rfl⟩
abbrev main_call5_v11 : Ref sig .tc := ⟨.hbm, 136, rfl⟩
abbrev main_call5_c_3 : Ref sig .tc := ⟨.hbm, 137, rfl⟩
abbrev main_call5_v12 : Ref sig .tc := ⟨.hbm, 138, rfl⟩
abbrev main_call5_v13 : Ref sig .tc := ⟨.hbm, 139, rfl⟩
abbrev main_call5_v14 : Ref sig .tc := ⟨.hbm, 140, rfl⟩
abbrev main_call5_cst : Ref sig .tc := ⟨.hbm, 141, rfl⟩
abbrev main_call5_v15 : Ref sig .tc := ⟨.hbm, 142, rfl⟩
abbrev main_v65 : Ref sig .tc := ⟨.hbm, 143, rfl⟩
abbrev main_v66 : Ref sig .tc := ⟨.hbm, 144, rfl⟩
abbrev main_v67 : Ref sig .tc := ⟨.hbm, 145, rfl⟩
abbrev main_cst_15 : Ref sig .tc := ⟨.hbm, 146, rfl⟩
abbrev main_v68 : Ref sig .tc := ⟨.hbm, 147, rfl⟩
abbrev main_cst_16 : Ref sig .tc := ⟨.hbm, 148, rfl⟩
abbrev main_v69 : Ref sig .tc := ⟨.hbm, 149, rfl⟩
abbrev main_v70 : Ref sig .tc := ⟨.hbm, 150, rfl⟩
abbrev main_v71 : Ref sig .tc := ⟨.hbm, 151, rfl⟩
abbrev main_cst_17 : Ref sig .tc := ⟨.hbm, 152, rfl⟩
abbrev main_v72 : Ref sig .tc := ⟨.hbm, 153, rfl⟩
abbrev main_cst_18 : Ref sig .tc := ⟨.hbm, 154, rfl⟩
abbrev main_v73 : Ref sig .tc := ⟨.hbm, 155, rfl⟩
abbrev main_v74 : Ref sig .tc := ⟨.hbm, 156, rfl⟩
abbrev main_cst_19 : Ref sig .tc := ⟨.hbm, 157, rfl⟩
abbrev main_v75 : Ref sig .tc := ⟨.hbm, 158, rfl⟩
abbrev main_v76 : Ref sig .tc := ⟨.hbm, 159, rfl⟩
abbrev main_v77 : Ref sig .tc := ⟨.hbm, 160, rfl⟩
abbrev main_v78 : Ref sig .tc := ⟨.hbm, 161, rfl⟩
abbrev main_v79 : Ref sig .tc := ⟨.hbm, 162, rfl⟩
abbrev main_v80 : Ref sig .tc := ⟨.hbm, 163, rfl⟩
abbrev main_v81 : Ref sig .tc := ⟨.hbm, 164, rfl⟩
abbrev main_call6_v0 : Ref sig .tc := ⟨.hbm, 165, rfl⟩
abbrev main_call6_cst : Ref sig .tc := ⟨.hbm, 166, rfl⟩
abbrev main_call6_v1 : Ref sig .tc := ⟨.hbm, 167, rfl⟩
abbrev main_call6_v2 : Ref sig .tc := ⟨.hbm, 168, rfl⟩
abbrev main_v82 : Ref sig .tc := ⟨.hbm, 169, rfl⟩
abbrev main_cst_20 : Ref sig .tc := ⟨.hbm, 170, rfl⟩
abbrev main_v83 : Ref sig .tc := ⟨.hbm, 171, rfl⟩
abbrev main_v84 : Ref sig .tc := ⟨.hbm, 172, rfl⟩
abbrev main_v85 : Ref sig .tc := ⟨.hbm, 173, rfl⟩
abbrev main_v86 : Ref sig .tc := ⟨.hbm, 174, rfl⟩
abbrev main_v87 : Ref sig .tc := ⟨.hbm, 175, rfl⟩
abbrev main_cst_21 : Ref sig .tc := ⟨.hbm, 176, rfl⟩
abbrev main_v88 : Ref sig .tc := ⟨.hbm, 177, rfl⟩
abbrev main_v89 : Ref sig .tc := ⟨.hbm, 178, rfl⟩
abbrev main_v90 : Ref sig .tc := ⟨.hbm, 179, rfl⟩
abbrev main_cst_22 : Ref sig .tc := ⟨.hbm, 180, rfl⟩
abbrev main_v91 : Ref sig .tc := ⟨.hbm, 181, rfl⟩
abbrev main_v92 : Ref sig .tc := ⟨.hbm, 182, rfl⟩
abbrev main_v93 : Ref sig .tc := ⟨.hbm, 183, rfl⟩
abbrev main_v94 : Ref sig .tc := ⟨.hbm, 184, rfl⟩
abbrev main_v95 : Ref sig .tc := ⟨.hbm, 185, rfl⟩
abbrev main_v96 : Ref sig .tc := ⟨.hbm, 186, rfl⟩
abbrev main_v97 : Ref sig .tc := ⟨.hbm, 187, rfl⟩
abbrev main_cst_23 : Ref sig .tc := ⟨.hbm, 188, rfl⟩
abbrev main_v98 : Ref sig .tc := ⟨.hbm, 189, rfl⟩
abbrev main_v99 : Ref sig .tc := ⟨.hbm, 190, rfl⟩
abbrev main_v100 : Ref sig .tc := ⟨.hbm, 191, rfl⟩
abbrev main_cst_24 : Ref sig .tc := ⟨.hbm, 192, rfl⟩
abbrev main_v101 : Ref sig .tc := ⟨.hbm, 193, rfl⟩
abbrev main_v102 : Ref sig .tc := ⟨.hbm, 194, rfl⟩
abbrev main_v103 : Ref sig .tc := ⟨.hbm, 195, rfl⟩
abbrev main_call7_v0 : Ref sig .tc := ⟨.hbm, 196, rfl⟩
abbrev main_call7_cst : Ref sig .tc := ⟨.hbm, 197, rfl⟩
abbrev main_call7_c : Ref sig .tc := ⟨.hbm, 198, rfl⟩
abbrev main_call7_v1_0 : Ref sig .tc := ⟨.hbm, 199, rfl⟩
abbrev main_v104 : Ref sig .tc := ⟨.hbm, 200, rfl⟩
abbrev main_call8_c : Ref sig .tc := ⟨.hbm, 201, rfl⟩
abbrev main_call8_v0 : Ref sig .tc := ⟨.hbm, 202, rfl⟩
abbrev main_call8_v1 : Ref sig .tc := ⟨.hbm, 203, rfl⟩
abbrev main_call8_c_0 : Ref sig .tc := ⟨.hbm, 204, rfl⟩
abbrev main_call8_v2 : Ref sig .tc := ⟨.hbm, 205, rfl⟩
abbrev main_call8_v3 : Ref sig .tc := ⟨.hbm, 206, rfl⟩
abbrev main_call8_v4 : Ref sig .tc := ⟨.hbm, 207, rfl⟩
abbrev main_call8_v5 : Ref sig .tc := ⟨.hbm, 208, rfl⟩
abbrev main_call8_c_1 : Ref sig .tc := ⟨.hbm, 209, rfl⟩
abbrev main_call8_c_2 : Ref sig .tc := ⟨.hbm, 210, rfl⟩
abbrev main_call8_v6 : Ref sig .tc := ⟨.hbm, 211, rfl⟩
abbrev main_call8_v7 : Ref sig .tc := ⟨.hbm, 212, rfl⟩
abbrev main_call8_v8 : Ref sig .tc := ⟨.hbm, 213, rfl⟩
abbrev main_call8_v9 : Ref sig .tc := ⟨.hbm, 214, rfl⟩
abbrev main_call8_v10 : Ref sig .tc := ⟨.hbm, 215, rfl⟩
abbrev main_call8_v11 : Ref sig .tc := ⟨.hbm, 216, rfl⟩
abbrev main_call8_c_3 : Ref sig .tc := ⟨.hbm, 217, rfl⟩
abbrev main_call8_v12 : Ref sig .tc := ⟨.hbm, 218, rfl⟩
abbrev main_call8_v13 : Ref sig .tc := ⟨.hbm, 219, rfl⟩
abbrev main_call8_v14 : Ref sig .tc := ⟨.hbm, 220, rfl⟩
abbrev main_call8_cst : Ref sig .tc := ⟨.hbm, 221, rfl⟩
abbrev main_call8_v15 : Ref sig .tc := ⟨.hbm, 222, rfl⟩
abbrev main_v105 : Ref sig .tc := ⟨.hbm, 223, rfl⟩
abbrev main_v106 : Ref sig .tc := ⟨.hbm, 224, rfl⟩
abbrev main_v107 : Ref sig .tc := ⟨.hbm, 225, rfl⟩
abbrev main_cst_25 : Ref sig .tc := ⟨.hbm, 226, rfl⟩
abbrev main_v108 : Ref sig .tc := ⟨.hbm, 227, rfl⟩
abbrev main_cst_26 : Ref sig .tc := ⟨.hbm, 228, rfl⟩
abbrev main_v109 : Ref sig .tc := ⟨.hbm, 229, rfl⟩
abbrev main_v110 : Ref sig .tc := ⟨.hbm, 230, rfl⟩
abbrev main_v111 : Ref sig .tc := ⟨.hbm, 231, rfl⟩
abbrev main_cst_27 : Ref sig .tc := ⟨.hbm, 232, rfl⟩
abbrev main_v112 : Ref sig .tc := ⟨.hbm, 233, rfl⟩
abbrev main_cst_28 : Ref sig .tc := ⟨.hbm, 234, rfl⟩
abbrev main_v113 : Ref sig .tc := ⟨.hbm, 235, rfl⟩
abbrev main_v114 : Ref sig .tc := ⟨.hbm, 236, rfl⟩
abbrev main_cst_29 : Ref sig .tc := ⟨.hbm, 237, rfl⟩
abbrev main_v115 : Ref sig .tc := ⟨.hbm, 238, rfl⟩
abbrev main_v116 : Ref sig .tc := ⟨.hbm, 239, rfl⟩
abbrev main_v117 : Ref sig .tc := ⟨.hbm, 240, rfl⟩
abbrev main_v118 : Ref sig .tc := ⟨.hbm, 241, rfl⟩
abbrev main_v119 : Ref sig .tc := ⟨.hbm, 242, rfl⟩
abbrev main_v120 : Ref sig .tc := ⟨.hbm, 243, rfl⟩
abbrev main_v121 : Ref sig .tc := ⟨.hbm, 244, rfl⟩
abbrev main_call9_v0 : Ref sig .tc := ⟨.hbm, 245, rfl⟩
abbrev main_call9_cst : Ref sig .tc := ⟨.hbm, 246, rfl⟩
abbrev main_call9_v1 : Ref sig .tc := ⟨.hbm, 247, rfl⟩
abbrev main_call9_v2 : Ref sig .tc := ⟨.hbm, 248, rfl⟩
abbrev main_v122 : Ref sig .tc := ⟨.hbm, 249, rfl⟩
abbrev main_cst_30 : Ref sig .tc := ⟨.hbm, 250, rfl⟩
abbrev main_v123 : Ref sig .tc := ⟨.hbm, 251, rfl⟩
abbrev main_v124 : Ref sig .tc := ⟨.hbm, 252, rfl⟩
abbrev main_v125 : Ref sig .tc := ⟨.hbm, 253, rfl⟩
abbrev main_v126 : Ref sig .tc := ⟨.hbm, 254, rfl⟩
abbrev main_v127 : Ref sig .tc := ⟨.hbm, 255, rfl⟩
abbrev main_cst_31 : Ref sig .tc := ⟨.hbm, 256, rfl⟩
abbrev main_v128 : Ref sig .tc := ⟨.hbm, 257, rfl⟩
abbrev main_v129 : Ref sig .tc := ⟨.hbm, 258, rfl⟩
abbrev main_v130 : Ref sig .tc := ⟨.hbm, 259, rfl⟩
abbrev main_cst_32 : Ref sig .tc := ⟨.hbm, 260, rfl⟩
abbrev main_v131 : Ref sig .tc := ⟨.hbm, 261, rfl⟩
abbrev main_v132 : Ref sig .tc := ⟨.hbm, 262, rfl⟩
abbrev main_v133 : Ref sig .tc := ⟨.hbm, 263, rfl⟩
abbrev main_v134 : Ref sig .tc := ⟨.hbm, 264, rfl⟩
abbrev main_v135 : Ref sig .tc := ⟨.hbm, 265, rfl⟩
abbrev main_v136 : Ref sig .tc := ⟨.hbm, 266, rfl⟩
abbrev main_v137 : Ref sig .tc := ⟨.hbm, 267, rfl⟩
abbrev main_cst_33 : Ref sig .tc := ⟨.hbm, 268, rfl⟩
abbrev main_v138 : Ref sig .tc := ⟨.hbm, 269, rfl⟩
abbrev main_v139 : Ref sig .tc := ⟨.hbm, 270, rfl⟩
abbrev main_v140 : Ref sig .tc := ⟨.hbm, 271, rfl⟩
abbrev main_cst_34 : Ref sig .tc := ⟨.hbm, 272, rfl⟩
abbrev main_v141 : Ref sig .tc := ⟨.hbm, 273, rfl⟩
abbrev main_v142 : Ref sig .tc := ⟨.hbm, 274, rfl⟩
abbrev main_v143 : Ref sig .tc := ⟨.hbm, 275, rfl⟩
abbrev main_call10_v0 : Ref sig .tc := ⟨.hbm, 276, rfl⟩
abbrev main_call10_cst : Ref sig .tc := ⟨.hbm, 277, rfl⟩
abbrev main_call10_c : Ref sig .tc := ⟨.hbm, 278, rfl⟩
abbrev main_call10_v1_0 : Ref sig .tc := ⟨.hbm, 279, rfl⟩
abbrev main_v144 : Ref sig .tc := ⟨.hbm, 280, rfl⟩
abbrev main_call11_c : Ref sig .tc := ⟨.hbm, 281, rfl⟩
abbrev main_call11_v0 : Ref sig .tc := ⟨.hbm, 282, rfl⟩
abbrev main_call11_v1 : Ref sig .tc := ⟨.hbm, 283, rfl⟩
abbrev main_call11_c_0 : Ref sig .tc := ⟨.hbm, 284, rfl⟩
abbrev main_call11_v2 : Ref sig .tc := ⟨.hbm, 285, rfl⟩
abbrev main_call11_v3 : Ref sig .tc := ⟨.hbm, 286, rfl⟩
abbrev main_call11_v4 : Ref sig .tc := ⟨.hbm, 287, rfl⟩
abbrev main_call11_v5 : Ref sig .tc := ⟨.hbm, 288, rfl⟩
abbrev main_call11_c_1 : Ref sig .tc := ⟨.hbm, 289, rfl⟩
abbrev main_call11_c_2 : Ref sig .tc := ⟨.hbm, 290, rfl⟩
abbrev main_call11_v6 : Ref sig .tc := ⟨.hbm, 291, rfl⟩
abbrev main_call11_v7 : Ref sig .tc := ⟨.hbm, 292, rfl⟩
abbrev main_call11_v8 : Ref sig .tc := ⟨.hbm, 293, rfl⟩
abbrev main_call11_v9 : Ref sig .tc := ⟨.hbm, 294, rfl⟩
abbrev main_call11_v10 : Ref sig .tc := ⟨.hbm, 295, rfl⟩
abbrev main_call11_v11 : Ref sig .tc := ⟨.hbm, 296, rfl⟩
abbrev main_call11_c_3 : Ref sig .tc := ⟨.hbm, 297, rfl⟩
abbrev main_call11_v12 : Ref sig .tc := ⟨.hbm, 298, rfl⟩
abbrev main_call11_v13 : Ref sig .tc := ⟨.hbm, 299, rfl⟩
abbrev main_call11_v14 : Ref sig .tc := ⟨.hbm, 300, rfl⟩
abbrev main_call11_cst : Ref sig .tc := ⟨.hbm, 301, rfl⟩
abbrev main_call11_v15 : Ref sig .tc := ⟨.hbm, 302, rfl⟩
abbrev main_v145 : Ref sig .tc := ⟨.hbm, 303, rfl⟩
abbrev main_v146 : Ref sig .tc := ⟨.hbm, 304, rfl⟩
abbrev main_v147 : Ref sig .tc := ⟨.hbm, 305, rfl⟩
abbrev main_cst_35 : Ref sig .tc := ⟨.hbm, 306, rfl⟩
abbrev main_v148 : Ref sig .tc := ⟨.hbm, 307, rfl⟩
abbrev main_cst_36 : Ref sig .tc := ⟨.hbm, 308, rfl⟩
abbrev main_v149 : Ref sig .tc := ⟨.hbm, 309, rfl⟩
abbrev main_v150 : Ref sig .tc := ⟨.hbm, 310, rfl⟩
abbrev main_v151 : Ref sig .tc := ⟨.hbm, 311, rfl⟩
abbrev main_cst_37 : Ref sig .tc := ⟨.hbm, 312, rfl⟩
abbrev main_v152 : Ref sig .tc := ⟨.hbm, 313, rfl⟩
abbrev main_cst_38 : Ref sig .tc := ⟨.hbm, 314, rfl⟩
abbrev main_v153 : Ref sig .tc := ⟨.hbm, 315, rfl⟩
abbrev main_v154 : Ref sig .tc := ⟨.hbm, 316, rfl⟩
abbrev main_cst_39 : Ref sig .tc := ⟨.hbm, 317, rfl⟩
abbrev main_v155 : Ref sig .tc := ⟨.hbm, 318, rfl⟩
abbrev main_v156 : Ref sig .tc := ⟨.hbm, 319, rfl⟩
abbrev main_v157 : Ref sig .tc := ⟨.hbm, 320, rfl⟩
abbrev main_v158 : Ref sig .tc := ⟨.hbm, 321, rfl⟩
abbrev main_v159 : Ref sig .tc := ⟨.hbm, 322, rfl⟩
abbrev main_v160 : Ref sig .tc := ⟨.hbm, 323, rfl⟩
abbrev main_v161 : Ref sig .tc := ⟨.hbm, 324, rfl⟩
abbrev main_v162 : Ref sig .tc := ⟨.hbm, 325, rfl⟩
abbrev main_v163 : Ref sig .tc := ⟨.hbm, 326, rfl⟩
abbrev main_v164 : Ref sig .tc := ⟨.hbm, 327, rfl⟩
abbrev main_v165 : Ref sig .tc := ⟨.hbm, 328, rfl⟩
abbrev main_v166 : Ref sig .tc := ⟨.hbm, 329, rfl⟩
abbrev main_v167 : Ref sig .tc := ⟨.hbm, 330, rfl⟩
abbrev main_v168 : Ref sig .tc := ⟨.hbm, 331, rfl⟩
abbrev main_v169 : Ref sig .tc := ⟨.hbm, 332, rfl⟩
abbrev main_cst_40 : Ref sig .tc := ⟨.hbm, 333, rfl⟩
abbrev main_v170 : Ref sig .tc := ⟨.hbm, 334, rfl⟩

abbrev nD : Nat := 1
abbrev τ : Topo := Topo.v7x

variable {F : FTy → Type} [FloatOps F]
-- ==== Proof.RefOps.lean ====
/-
  The reference's operations, listed in the order in which @main runs them: one list per layer and a closing list,
  with a list per call of each of @main's functions (a norm, an index of the least element, a row lookup).
  The reference launches no kernel, so its run is the fold of these lists over the memory it starts from.
-/
module

public import proofs.«01_k».proof.ReferenceIdeal
public import proofs.«01_k».proof.Proof.Gen.ReferenceIdeal
public import Idealize.ShloMosaic.Lib.StableHlo.Run

@[expose] public section

set_option maxRecDepth 16384

noncomputable section

namespace Cert.ReferenceIdeal.Ops

open Idealize.ShloMosaic Idealize.ShloMosaic.StableHlo Idealize.SL.Sem Cert.ReferenceIdeal Facts₀ Facts

variable {F : FTy → Type} [FloatOps F]

/-- The Euclidean length of each row of a matrix. -/
def normOps (x : TRef sig ⟨S1024x256, .f32⟩) (φ : fn_norm.Bufs) : List (HloOp τ sig (Elt F)) :=
  [
    TRef.binary x x φ.v0 mulf,
    TRef.nullary φ.cst (constant S_ .f32 0x00000000#32),
    TRef.binary φ.v0 φ.cst φ.v1 (fun x v => Host.reduceAdd x v reducesTo_S1024x256_S1024_d1 h_S_),
    TRef.unary φ.v1 φ.v2 (broadcastInDim S1024x1 ![0] bcast_S1024_S1024x1_0),
    TRef.unary φ.v2 φ.v3 Host.sqrt ]

/-- The index of the first least element of each row. -/
def argminOps (x : TRef sig ⟨S16384x1024, .f32⟩) (φ : fn_argmin.Bufs) : List (HloOp τ sig (Elt F)) :=
  [
    TRef.nullary φ.v0 (iotaInDim S16384x1024 32 1),
    TRef.nullary φ.cst (constant S_ .f32 0x7F800000#32),
    TRef.nullary φ.c (constantI S_ 32 0#32),
    TRef.quaternary x φ.v0 φ.cst φ.c φ.v1_0 (fun x y u v j => (Host.argReduce reducer_argmin_f32_i32 x y u v reducesTo_S16384x1024_S16384_d1 h_S_ j).1),
    TRef.quaternary x φ.v0 φ.cst φ.c φ.v1_1 (fun x y u v j => (Host.argReduce reducer_argmin_f32_i32 x y u v reducesTo_S16384x1024_S16384_d1 h_S_ j).2) ]

/-- The rows of a matrix that a list of indices names. -/
def takeOps (x : TRef sig ⟨S1024x256, .f32⟩) (i : TRef sig ⟨S16384, .i32⟩) (φ : fn_take.Bufs) : List (HloOp τ sig (Elt F)) :=
  [
    TRef.nullary φ.c (constantI S_ 32 0#32),
    TRef.unary φ.c φ.v0 (broadcastInDim S16384 ![] bcast_S_S16384),
    TRef.binary i φ.v0 φ.v1 (cmpi .slt),
    TRef.nullary φ.c_0 (constantI S_ 32 1024#32),
    TRef.unary φ.c_0 φ.v2 (broadcastInDim S16384 ![] bcast_S_S16384),
    TRef.binary i φ.v2 φ.v3 addi,
    TRef.ternary φ.v1 φ.v3 i φ.call0.v0 select,
    TRef.unary φ.call0.v0 φ.v5 (broadcastInDim S16384x1 ![0] bcast_S16384_S16384x1_0),
    TRef.nullary φ.c_1 (constantI S1 32 1023#32),
    TRef.nullary φ.c_2 (constantI S_ 32 0#32),
    TRef.unary φ.c_2 φ.v6 (broadcastInDim S16384x1 ![] bcast_S_S16384x1),
    TRef.binary φ.v5 φ.v6 φ.v7 (cmpi .sge),
    TRef.unary φ.c_1 φ.v8 (broadcastInDim S1x1 ![1] bcast_S1_S1x1_1),
    TRef.unary φ.v8 φ.v9 (broadcastInDim S16384x1 ![0, 1] bcast_S1x1_S16384x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S16384x1_S16384_d1 h_S_),
    TRef.binary x φ.v5 φ.v13 (fun x i => Host.gather gather_S1024x256_S16384x1_S16384x256_1_0_n_n_0_1_1256 x i),
    TRef.unary φ.v12 φ.v14 (broadcastInDim S16384x256 ![0] bcast_S16384_S16384x256_0),
    TRef.nullary φ.cst (constant S_ .f32 0x7FC00000#32),
    TRef.unary φ.cst φ.v15 (broadcastInDim S16384x256 ![] bcast_S_S16384x256),
    TRef.ternary φ.v14 φ.v13 φ.v15 φ.v16 select ]

/-- The first layer: its codebook against the argument rows. -/
def layer0 : List (HloOp τ sig (Elt F)) :=
  [
    unary main_arg1 main_v0 (extractStridedSlice S1x1024x256 ![0, 0, 0] · slices_S4x1024x256_S1x1024x256_0_0_0),
    reshape main_v0 main_v1 rfl shapeCasts_S1x1024x256_S1024x256 ]
  ++ normOps (.of main_v1) main_call0
  ++ [
    nullary main_cst (constant S_ .f32 0x2B8CBCCC#32),
    unary main_cst main_v3 (broadcastInDim S1024x1 ![] bcast_S_S1024x1),
    binary main_v2 main_v3 main_v4 maximumf,
    unary main_v4 main_v5 (broadcastInDim S1024x256 ![0, 1] bcast_S1024x1_S1024x256_0_1),
    binary main_v1 main_v5 main_v6 Host.divf,
    binary main_arg0 main_arg0 main_v7 mulf,
    nullary main_cst_0 (constant S_ .f32 0x00000000#32),
    binary main_v7 main_cst_0 main_v8 (fun x v => Host.reduceAdd x v reducesTo_S16384x256_S16384_d1 h_S_),
    unary main_v8 main_v9 (broadcastInDim S16384x1 ![0] bcast_S16384_S16384x1_0),
    binary main_v6 main_v6 main_v10 mulf,
    nullary main_cst_1 (constant S_ .f32 0x00000000#32),
    binary main_v10 main_cst_1 main_v11 (fun x v => Host.reduceAdd x v reducesTo_S1024x256_S1024_d1 h_S_),
    unary main_v11 main_v12 (broadcastInDim S1x1024 ![1] bcast_S1024_S1x1024_1),
    unary main_v9 main_v13 (broadcastInDim S16384x1024 ![0, 1] bcast_S16384x1_S16384x1024_0_1),
    unary main_v12 main_v14 (broadcastInDim S16384x1024 ![0, 1] bcast_S1x1024_S16384x1024_0_1),
    binary main_v13 main_v14 main_v15 addf,
    unary main_v6 main_v16 (transpose S256x1024 [1, 0] · transposes_S1024x256_S256x1024_1_0),
    binary main_arg0 main_v16 main_v17 (fun l r => Host.dotGeneral dot_S16384x256_S256x1024_S16384x1024_1_0_0_1_n_n none l r),
    nullary main_cst_2 (constant S_ .f32 0x40000000#32),
    unary main_cst_2 main_v18 (broadcastInDim S16384x1024 ![] bcast_S_S16384x1024),
    binary main_v18 main_v17 main_v19 mulf,
    binary main_v15 main_v19 main_v20 subf,
    nullary main_cst_3 (constant S_ .f32 0x00000000#32),
    unary main_cst_3 main_v21 (broadcastInDim S16384x1024 ![] bcast_S_S16384x1024),
    binary main_v20 main_v21 main_v22 maximumf,
    unary main_v22 main_v23 Host.sqrt ]
  ++ argminOps (.of main_v23) main_call1
  ++ takeOps (.of main_v1) (.of main_v24) main_call2
  ++ [
    binary main_arg0 main_v25 main_v26 subf,
    binary main_v26 main_v26 main_v27 mulf,
    nullary main_cst_4 (constant S_ .f32 0x00000000#32),
    binary main_v27 main_cst_4 main_v28 (fun x v => Host.reduceAdd x v reducesTo_S16384x256_S_d0_1 h_S_),
    nullary main_cst_5 (constant S_ .f32 0x4A800000#32),
    binary main_v28 main_cst_5 main_v29 Host.divf,
    binary main_arg0 main_v25 main_v30 subf,
    binary main_v30 main_v30 main_v31 mulf,
    nullary main_cst_6 (constant S_ .f32 0x00000000#32),
    binary main_v31 main_cst_6 main_v32 (fun x v => Host.reduceAdd x v reducesTo_S16384x256_S_d0_1 h_S_),
    nullary main_cst_7 (constant S_ .f32 0x4A800000#32),
    binary main_v32 main_cst_7 main_v33 Host.divf,
    nullary main_cst_8 (constant S_ .f32 0x00000000#32),
    binary main_cst_8 main_v29 main_v34 addf,
    nullary main_cst_9 (constant S_ .f32 0x3E800000#32),
    binary main_cst_9 main_v33 main_v35 mulf,
    binary main_v34 main_v35 main_v36 addf,
    binary main_v25 main_arg0 main_v37 subf,
    binary main_arg0 main_v37 main_v38 addf,
    binary main_arg0 main_v38 main_v39 subf ]

/-- The second layer. -/
def layer1 : List (HloOp τ sig (Elt F)) :=
  [
    unary main_arg1 main_v40 (extractStridedSlice S1x1024x256 ![1, 0, 0] · slices_S4x1024x256_S1x1024x256_1_0_0),
    reshape main_v40 main_v41 rfl shapeCasts_S1x1024x256_S1024x256 ]
  ++ normOps (.of main_v41) main_call3
  ++ [
    nullary main_cst_10 (constant S_ .f32 0x2B8CBCCC#32),
    unary main_cst_10 main_v43 (broadcastInDim S1024x1 ![] bcast_S_S1024x1),
    binary main_v42 main_v43 main_v44 maximumf,
    unary main_v44 main_v45 (broadcastInDim S1024x256 ![0, 1] bcast_S1024x1_S1024x256_0_1),
    binary main_v41 main_v45 main_v46 Host.divf,
    binary main_v39 main_v39 main_v47 mulf,
    nullary main_cst_11 (constant S_ .f32 0x00000000#32),
    binary main_v47 main_cst_11 main_v48 (fun x v => Host.reduceAdd x v reducesTo_S16384x256_S16384_d1 h_S_),
    unary main_v48 main_v49 (broadcastInDim S16384x1 ![0] bcast_S16384_S16384x1_0),
    binary main_v46 main_v46 main_v50 mulf,
    nullary main_cst_12 (constant S_ .f32 0x00000000#32),
    binary main_v50 main_cst_12 main_v51 (fun x v => Host.reduceAdd x v reducesTo_S1024x256_S1024_d1 h_S_),
    unary main_v51 main_v52 (broadcastInDim S1x1024 ![1] bcast_S1024_S1x1024_1),
    unary main_v49 main_v53 (broadcastInDim S16384x1024 ![0, 1] bcast_S16384x1_S16384x1024_0_1),
    unary main_v52 main_v54 (broadcastInDim S16384x1024 ![0, 1] bcast_S1x1024_S16384x1024_0_1),
    binary main_v53 main_v54 main_v55 addf,
    unary main_v46 main_v56 (transpose S256x1024 [1, 0] · transposes_S1024x256_S256x1024_1_0),
    binary main_v39 main_v56 main_v57 (fun l r => Host.dotGeneral dot_S16384x256_S256x1024_S16384x1024_1_0_0_1_n_n none l r),
    nullary main_cst_13 (constant S_ .f32 0x40000000#32),
    unary main_cst_13 main_v58 (broadcastInDim S16384x1024 ![] bcast_S_S16384x1024),
    binary main_v58 main_v57 main_v59 mulf,
    binary main_v55 main_v59 main_v60 subf,
    nullary main_cst_14 (constant S_ .f32 0x00000000#32),
    unary main_cst_14 main_v61 (broadcastInDim S16384x1024 ![] bcast_S_S16384x1024),
    binary main_v60 main_v61 main_v62 maximumf,
    unary main_v62 main_v63 Host.sqrt ]
  ++ argminOps (.of main_v63) main_call4
  ++ takeOps (.of main_v41) (.of main_v64) main_call5
  ++ [
    binary main_v39 main_v65 main_v66 subf,
    binary main_v66 main_v66 main_v67 mulf,
    nullary main_cst_15 (constant S_ .f32 0x00000000#32),
    binary main_v67 main_cst_15 main_v68 (fun x v => Host.reduceAdd x v reducesTo_S16384x256_S_d0_1 h_S_),
    nullary main_cst_16 (constant S_ .f32 0x4A800000#32),
    binary main_v68 main_cst_16 main_v69 Host.divf,
    binary main_v39 main_v65 main_v70 subf,
    binary main_v70 main_v70 main_v71 mulf,
    nullary main_cst_17 (constant S_ .f32 0x00000000#32),
    binary main_v71 main_cst_17 main_v72 (fun x v => Host.reduceAdd x v reducesTo_S16384x256_S_d0_1 h_S_),
    nullary main_cst_18 (constant S_ .f32 0x4A800000#32),
    binary main_v72 main_cst_18 main_v73 Host.divf,
    binary main_v36 main_v69 main_v74 addf,
    nullary main_cst_19 (constant S_ .f32 0x3E800000#32),
    binary main_cst_19 main_v73 main_v75 mulf,
    binary main_v74 main_v75 main_v76 addf,
    binary main_v65 main_v39 main_v77 subf,
    binary main_v39 main_v77 main_v78 addf,
    binary main_v39 main_v78 main_v79 subf ]

/-- The third layer. -/
def layer2 : List (HloOp τ sig (Elt F)) :=
  [
    unary main_arg1 main_v80 (extractStridedSlice S1x1024x256 ![2, 0, 0] · slices_S4x1024x256_S1x1024x256_2_0_0),
    reshape main_v80 main_v81 rfl shapeCasts_S1x1024x256_S1024x256 ]
  ++ normOps (.of main_v81) main_call6
  ++ [
    nullary main_cst_20 (constant S_ .f32 0x2B8CBCCC#32),
    unary main_cst_20 main_v83 (broadcastInDim S1024x1 ![] bcast_S_S1024x1),
    binary main_v82 main_v83 main_v84 maximumf,
    unary main_v84 main_v85 (broadcastInDim S1024x256 ![0, 1] bcast_S1024x1_S1024x256_0_1),
    binary main_v81 main_v85 main_v86 Host.divf,
    binary main_v79 main_v79 main_v87 mulf,
    nullary main_cst_21 (constant S_ .f32 0x00000000#32),
    binary main_v87 main_cst_21 main_v88 (fun x v => Host.reduceAdd x v reducesTo_S16384x256_S16384_d1 h_S_),
    unary main_v88 main_v89 (broadcastInDim S16384x1 ![0] bcast_S16384_S16384x1_0),
    binary main_v86 main_v86 main_v90 mulf,
    nullary main_cst_22 (constant S_ .f32 0x00000000#32),
    binary main_v90 main_cst_22 main_v91 (fun x v => Host.reduceAdd x v reducesTo_S1024x256_S1024_d1 h_S_),
    unary main_v91 main_v92 (broadcastInDim S1x1024 ![1] bcast_S1024_S1x1024_1),
    unary main_v89 main_v93 (broadcastInDim S16384x1024 ![0, 1] bcast_S16384x1_S16384x1024_0_1),
    unary main_v92 main_v94 (broadcastInDim S16384x1024 ![0, 1] bcast_S1x1024_S16384x1024_0_1),
    binary main_v93 main_v94 main_v95 addf,
    unary main_v86 main_v96 (transpose S256x1024 [1, 0] · transposes_S1024x256_S256x1024_1_0),
    binary main_v79 main_v96 main_v97 (fun l r => Host.dotGeneral dot_S16384x256_S256x1024_S16384x1024_1_0_0_1_n_n none l r),
    nullary main_cst_23 (constant S_ .f32 0x40000000#32),
    unary main_cst_23 main_v98 (broadcastInDim S16384x1024 ![] bcast_S_S16384x1024),
    binary main_v98 main_v97 main_v99 mulf,
    binary main_v95 main_v99 main_v100 subf,
    nullary main_cst_24 (constant S_ .f32 0x00000000#32),
    unary main_cst_24 main_v101 (broadcastInDim S16384x1024 ![] bcast_S_S16384x1024),
    binary main_v100 main_v101 main_v102 maximumf,
    unary main_v102 main_v103 Host.sqrt ]
  ++ argminOps (.of main_v103) main_call7
  ++ takeOps (.of main_v81) (.of main_v104) main_call8
  ++ [
    binary main_v79 main_v105 main_v106 subf,
    binary main_v106 main_v106 main_v107 mulf,
    nullary main_cst_25 (constant S_ .f32 0x00000000#32),
    binary main_v107 main_cst_25 main_v108 (fun x v => Host.reduceAdd x v reducesTo_S16384x256_S_d0_1 h_S_),
    nullary main_cst_26 (constant S_ .f32 0x4A800000#32),
    binary main_v108 main_cst_26 main_v109 Host.divf,
    binary main_v79 main_v105 main_v110 subf,
    binary main_v110 main_v110 main_v111 mulf,
    nullary main_cst_27 (constant S_ .f32 0x00000000#32),
    binary main_v111 main_cst_27 main_v112 (fun x v => Host.reduceAdd x v reducesTo_S16384x256_S_d0_1 h_S_),
    nullary main_cst_28 (constant S_ .f32 0x4A800000#32),
    binary main_v112 main_cst_28 main_v113 Host.divf,
    binary main_v76 main_v109 main_v114 addf,
    nullary main_cst_29 (constant S_ .f32 0x3E800000#32),
    binary main_cst_29 main_v113 main_v115 mulf,
    binary main_v114 main_v115 main_v116 addf,
    binary main_v105 main_v79 main_v117 subf,
    binary main_v79 main_v117 main_v118 addf,
    binary main_v79 main_v118 main_v119 subf ]

/-- The fourth layer. -/
def layer3 : List (HloOp τ sig (Elt F)) :=
  [
    unary main_arg1 main_v120 (extractStridedSlice S1x1024x256 ![3, 0, 0] · slices_S4x1024x256_S1x1024x256_3_0_0),
    reshape main_v120 main_v121 rfl shapeCasts_S1x1024x256_S1024x256 ]
  ++ normOps (.of main_v121) main_call9
  ++ [
    nullary main_cst_30 (constant S_ .f32 0x2B8CBCCC#32),
    unary main_cst_30 main_v123 (broadcastInDim S1024x1 ![] bcast_S_S1024x1),
    binary main_v122 main_v123 main_v124 maximumf,
    unary main_v124 main_v125 (broadcastInDim S1024x256 ![0, 1] bcast_S1024x1_S1024x256_0_1),
    binary main_v121 main_v125 main_v126 Host.divf,
    binary main_v119 main_v119 main_v127 mulf,
    nullary main_cst_31 (constant S_ .f32 0x00000000#32),
    binary main_v127 main_cst_31 main_v128 (fun x v => Host.reduceAdd x v reducesTo_S16384x256_S16384_d1 h_S_),
    unary main_v128 main_v129 (broadcastInDim S16384x1 ![0] bcast_S16384_S16384x1_0),
    binary main_v126 main_v126 main_v130 mulf,
    nullary main_cst_32 (constant S_ .f32 0x00000000#32),
    binary main_v130 main_cst_32 main_v131 (fun x v => Host.reduceAdd x v reducesTo_S1024x256_S1024_d1 h_S_),
    unary main_v131 main_v132 (broadcastInDim S1x1024 ![1] bcast_S1024_S1x1024_1),
    unary main_v129 main_v133 (broadcastInDim S16384x1024 ![0, 1] bcast_S16384x1_S16384x1024_0_1),
    unary main_v132 main_v134 (broadcastInDim S16384x1024 ![0, 1] bcast_S1x1024_S16384x1024_0_1),
    binary main_v133 main_v134 main_v135 addf,
    unary main_v126 main_v136 (transpose S256x1024 [1, 0] · transposes_S1024x256_S256x1024_1_0),
    binary main_v119 main_v136 main_v137 (fun l r => Host.dotGeneral dot_S16384x256_S256x1024_S16384x1024_1_0_0_1_n_n none l r),
    nullary main_cst_33 (constant S_ .f32 0x40000000#32),
    unary main_cst_33 main_v138 (broadcastInDim S16384x1024 ![] bcast_S_S16384x1024),
    binary main_v138 main_v137 main_v139 mulf,
    binary main_v135 main_v139 main_v140 subf,
    nullary main_cst_34 (constant S_ .f32 0x00000000#32),
    unary main_cst_34 main_v141 (broadcastInDim S16384x1024 ![] bcast_S_S16384x1024),
    binary main_v140 main_v141 main_v142 maximumf,
    unary main_v142 main_v143 Host.sqrt ]
  ++ argminOps (.of main_v143) main_call10
  ++ takeOps (.of main_v121) (.of main_v144) main_call11
  ++ [
    binary main_v119 main_v145 main_v146 subf,
    binary main_v146 main_v146 main_v147 mulf,
    nullary main_cst_35 (constant S_ .f32 0x00000000#32),
    binary main_v147 main_cst_35 main_v148 (fun x v => Host.reduceAdd x v reducesTo_S16384x256_S_d0_1 h_S_),
    nullary main_cst_36 (constant S_ .f32 0x4A800000#32),
    binary main_v148 main_cst_36 main_v149 Host.divf,
    binary main_v119 main_v145 main_v150 subf,
    binary main_v150 main_v150 main_v151 mulf,
    nullary main_cst_37 (constant S_ .f32 0x00000000#32),
    binary main_v151 main_cst_37 main_v152 (fun x v => Host.reduceAdd x v reducesTo_S16384x256_S_d0_1 h_S_),
    nullary main_cst_38 (constant S_ .f32 0x4A800000#32),
    binary main_v152 main_cst_38 main_v153 Host.divf,
    binary main_v116 main_v149 main_v154 addf,
    nullary main_cst_39 (constant S_ .f32 0x3E800000#32),
    binary main_cst_39 main_v153 main_v155 mulf,
    binary main_v154 main_v155 main_v156 addf,
    binary main_v145 main_v119 main_v157 subf,
    binary main_v119 main_v157 main_v158 addf,
    binary main_v119 main_v158 main_v159 subf ]

/-- The three results put together. -/
def closing : List (HloOp τ sig (Elt F)) :=
  [
    unary main_v24 main_v160 (broadcastInDim S16384x1 ![0] bcast_S16384_S16384x1_0),
    unary main_v64 main_v161 (broadcastInDim S16384x1 ![0] bcast_S16384_S16384x1_0),
    unary main_v104 main_v162 (broadcastInDim S16384x1 ![0] bcast_S16384_S16384x1_0),
    unary main_v144 main_v163 (broadcastInDim S16384x1 ![0] bcast_S16384_S16384x1_0),
    nary ![main_v160, main_v161, main_v162, main_v163] main_v164 (fun u => (concatenate S16384x4 1 [⟨S16384x1, (u 0)⟩, ⟨S16384x1, (u 1)⟩, ⟨S16384x1, (u 2)⟩, ⟨S16384x1, (u 3)⟩] concatenates_S16384x1_S16384x1_S16384x1_S16384x1_S16384x4_d1)),
    unary main_v25 main_v165 (broadcastInDim S1x16384x256 ![1, 2] bcast_S16384x256_S1x16384x256_1_2),
    unary main_v65 main_v166 (broadcastInDim S1x16384x256 ![1, 2] bcast_S16384x256_S1x16384x256_1_2),
    unary main_v105 main_v167 (broadcastInDim S1x16384x256 ![1, 2] bcast_S16384x256_S1x16384x256_1_2),
    unary main_v145 main_v168 (broadcastInDim S1x16384x256 ![1, 2] bcast_S16384x256_S1x16384x256_1_2),
    nary ![main_v165, main_v166, main_v167, main_v168] main_v169 (fun u => (concatenate S4x16384x256 0 [⟨S1x16384x256, (u 0)⟩, ⟨S1x16384x256, (u 1)⟩, ⟨S1x16384x256, (u 2)⟩, ⟨S1x16384x256, (u 3)⟩] concatenates_S1x16384x256_S1x16384x256_S1x16384x256_S1x16384x256_S4x16384x256_d0)),
    nullary main_cst_40 (constant S_ .f32 0x00000000#32),
    binary main_v169 main_cst_40 main_v170 (fun x v => Host.reduceAdd x v reducesTo_S4x16384x256_S16384x256_d0 h_S_) ]

/-- Everything @main runs. -/
def ops : List (HloOp τ sig (Elt F)) := layer0 ++ (layer1 ++ (layer2 ++ (layer3 ++ closing)))

theorem main_eq (c : Dev nD) : main (F := F) c = seq ops := by
  simp only [main, main_part0, main_part1, main_part2, main_part3, fn_norm.body, fn_argmin.body, fn_take.body, fn_where.body,
    ops, layer0, layer1, layer2, layer3, closing, normOps, argminOps, takeOps, List.cons_append, List.nil_append,
    List.append_assoc, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, layer0, layer1, layer2, layer3, closing, normOps, argminOps, takeOps, List.forall_append, List.Forall,
    nullary_bufs_sub, unary_bufs_sub, binary_bufs_sub, ternary_bufs_sub, quaternary_bufs_sub, reshape_bufs_sub, nary_bufs_sub,
    and_self]

theorem ops_fresh : ∀ op ∈ (ops : List (HloOp τ sig (Elt F))), op.fresh = ∅ := by
  rw [← List.forall_iff_forall_mem]
  simp only [ops, layer0, layer1, layer2, layer3, closing, normOps, argminOps, takeOps, List.forall_append, List.Forall]
  repeat' constructor

/-- Every run of the reference ends, with each buffer at the fold of the operations over the starting contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.Ops

end

end
-- ==== Proof.RefArgs.lean ====
/-
  The reference's run as a frame: the lists of operations one after another, and the two argument arrays, which no
  operation writes.
-/
module

public import proofs.«01_k».proof.Proof.RefOps

@[expose] public section

set_option maxRecDepth 16384

noncomputable section

namespace Cert.ReferenceIdeal.Ops

open Idealize.ShloMosaic Idealize.ShloMosaic.StableHlo Idealize.SL.Sem Cert.ReferenceIdeal Facts₀ Facts

variable {F : FTy → Type} [FloatOps F]

/-- Two lists of operations one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- No operation writes the first argument. -/
theorem arg0_eq (V : Valuation τ sig (Elt F)) :
    after ops V (Proc.devRef .tc main_arg0) = V (Proc.devRef .tc main_arg0) := by
  apply after_of_forall_not_mem
  rw [← List.forall_iff_forall_mem]
  simp only [ops, layer0, layer1, layer2, layer3, closing, normOps, argminOps, takeOps, List.forall_append, List.Forall,
    nullary_writes, unary_writes, binary_writes, ternary_writes, quaternary_writes, reshape_writes, nary_writes,
    Finset.mem_singleton]
  repeat' apply And.intro
  all_goals first | exact trivial | (refine devRef_ne_of_ne ?_; decide)

/-- No operation writes the second argument. -/
theorem arg1_eq (V : Valuation τ sig (Elt F)) :
    after ops V (Proc.devRef .tc main_arg1) = V (Proc.devRef .tc main_arg1) := by
  apply after_of_forall_not_mem
  rw [← List.forall_iff_forall_mem]
  simp only [ops, layer0, layer1, layer2, layer3, closing, normOps, argminOps, takeOps, List.forall_append, List.Forall,
    nullary_writes, unary_writes, binary_writes, ternary_writes, quaternary_writes, reshape_writes, nary_writes,
    Finset.mem_singleton]
  repeat' apply And.intro
  all_goals first | exact trivial | (refine devRef_ne_of_ne ?_; decide)

end Cert.ReferenceIdeal.Ops

end

end
-- ==== Proof.RefStage.lean ====
/-
  One stage of the reference, as vectors, and the proof that each layer of the reference's program computes it.

  A stage takes all the rows still to be explained and one codebook.  The definitions are at any float instance;
  `Proof.RefValue` reads them at the extended reals.
-/
module

public import proofs.«01_k».proof.Proof.RefArgs
public import Idealize.ShloMosaic.Lib.StableHlo.RunRead

@[expose] public section

set_option maxRecDepth 65536

noncomputable section

namespace Cert.ReferenceIdeal.Stage

open Idealize.ShloMosaic Idealize.ShloMosaic.StableHlo Idealize.SL.Sem Cert.ReferenceIdeal Cert.ReferenceIdeal.Ops Facts₀ Facts

variable {F : FTy → Type} [FloatOps F]

/-- A scalar zero. -/
def zero : FVec F S_ .f32 := constant S_ .f32 0x00000000#32

/-- A codebook with its rows scaled to unit length (a row shorter than the floor is scaled by the floor). -/
def unitRows (e : FVec F S1024x256 .f32) : FVec F S1024x256 .f32 :=
  Host.divf e
    (broadcastInDim S1024x256 ![0, 1] bcast_S1024x1_S1024x256_0_1
      (maximumf
        (Host.sqrt (broadcastInDim S1024x1 ![0] bcast_S1024_S1024x1_0 (Host.reduceAdd (mulf e e) zero reducesTo_S1024x256_S1024_d1 h_S_)))
        (broadcastInDim S1024x1 ![] bcast_S_S1024x1 (constant S_ .f32 0x2B8CBCCC#32))))

/-- The distance of every row from every entry. -/
def dist (u : FVec F S1024x256 .f32) (r : FVec F S16384x256 .f32) : FVec F S16384x1024 .f32 :=
  Host.sqrt
    (maximumf
      (subf
        (addf
          (broadcastInDim S16384x1024 ![0, 1] bcast_S16384x1_S16384x1024_0_1
            (broadcastInDim S16384x1 ![0] bcast_S16384_S16384x1_0 (Host.reduceAdd (mulf r r) zero reducesTo_S16384x256_S16384_d1 h_S_)))
          (broadcastInDim S16384x1024 ![0, 1] bcast_S1x1024_S16384x1024_0_1
            (broadcastInDim S1x1024 ![1] bcast_S1024_S1x1024_1 (Host.reduceAdd (mulf u u) zero reducesTo_S1024x256_S1024_d1 h_S_))))
        (mulf (broadcastInDim S16384x1024 ![] bcast_S_S16384x1024 (constant S_ .f32 0x40000000#32))
          (Host.dotGeneral dot_S16384x256_S256x1024_S16384x1024_1_0_0_1_n_n none r
            (transpose S256x1024 [1, 0] u transposes_S1024x256_S256x1024_1_0))))
      (broadcastInDim S16384x1024 ![] bcast_S_S16384x1024 zero))

/-- The first nearest entry of every row. -/
def nearest (d : FVec F S16384x1024 .f32) : IVec S16384 32 := fun j =>
  (Host.argReduce reducer_argmin_f32_i32 d (iotaInDim S16384x1024 32 1) (constant S_ .f32 0x7F800000#32) (constantI S_ 32 0#32)
    reducesTo_S16384x1024_S16384_d1 h_S_ j).2

/-- An index counted from the end when negative. -/
def wrapped (i : IVec S16384 32) : IVec S16384x1 32 :=
  broadcastInDim S16384x1 ![0] bcast_S16384_S16384x1_0
    (select (cmpi .slt i (broadcastInDim S16384 ![] bcast_S_S16384 (constantI S_ 32 0#32)))
      (addi i (broadcastInDim S16384 ![] bcast_S_S16384 (constantI S_ 32 1024#32))) i)

/-- The codebook rows the indices name, and a mark in place of a row outside the codebook. -/
def take (e : FVec F S1024x256 .f32) (i : IVec S16384 32) : FVec F S16384x256 .f32 :=
  select
    (broadcastInDim S16384x256 ![0] bcast_S16384_S16384x256_0
      (Host.reduce IntOp.andi
        (andi (cmpi .sge (wrapped i) (broadcastInDim S16384x1 ![] bcast_S_S16384x1 (constantI S_ 32 0#32)))
          (cmpi .sle (wrapped i)
            (broadcastInDim S16384x1 ![0, 1] bcast_S1x1_S16384x1_0_1 (broadcastInDim S1x1 ![1] bcast_S1_S1x1_1 (constantI S1 32 1023#32)))))
        (constantI S_ 1 1#1) reducesTo_S16384x1_S16384_d1 h_S_))
    (Host.gather gather_S1024x256_S16384x1_S16384x256_1_0_n_n_0_1_1256 e (wrapped i))
    (broadcastInDim S16384x256 ![] bcast_S_S16384x256 (constant S_ .f32 0x7FC00000#32))

/-- The stage's chosen entries. -/
def pick (e : FVec F S1024x256 .f32) (r : FVec F S16384x256 .f32) : IVec S16384 32 := nearest (dist (unitRows e) r)

/-- The stage's chosen rows. -/
def fetch (e : FVec F S1024x256 .f32) (r : FVec F S16384x256 .f32) : FVec F S16384x256 .f32 := take e (pick e r)

/-- The rows left after the stage. -/
def rest (e : FVec F S1024x256 .f32) (r : FVec F S16384x256 .f32) : FVec F S16384x256 .f32 :=
  subf r (addf r (subf (fetch e r) r))

/-- The mean square of what the chosen rows miss. -/
def miss (e : FVec F S1024x256 .f32) (r : FVec F S16384x256 .f32) : FVec F S_ .f32 :=
  Host.divf (Host.reduceAdd (mulf (subf r (fetch e r)) (subf r (fetch e r))) zero reducesTo_S16384x256_S_d0_1 h_S_)
    (constant S_ .f32 0x4A800000#32)

/-- The loss after the stage, from the loss `p` before it. -/
def loss (e : FVec F S1024x256 .f32) (r : FVec F S16384x256 .f32) (p : FVec F S_ .f32) : FVec F S_ .f32 :=
  addf (addf p (miss e r)) (mulf (constant S_ .f32 0x3E800000#32) (miss e r))

/-- The four codebooks. -/
def book0 (C : FVec F S4x1024x256 .f32) : FVec F S1024x256 .f32 :=
  shapeCast S1024x256 (extractStridedSlice S1x1024x256 ![0, 0, 0] C slices_S4x1024x256_S1x1024x256_0_0_0) shapeCasts_S1x1024x256_S1024x256
@[inherit_doc book0] def book1 (C : FVec F S4x1024x256 .f32) : FVec F S1024x256 .f32 :=
  shapeCast S1024x256 (extractStridedSlice S1x1024x256 ![1, 0, 0] C slices_S4x1024x256_S1x1024x256_1_0_0) shapeCasts_S1x1024x256_S1024x256
@[inherit_doc book0] def book2 (C : FVec F S4x1024x256 .f32) : FVec F S1024x256 .f32 :=
  shapeCast S1024x256 (extractStridedSlice S1x1024x256 ![2, 0, 0] C slices_S4x1024x256_S1x1024x256_2_0_0) shapeCasts_S1x1024x256_S1024x256
@[inherit_doc book0] def book3 (C : FVec F S4x1024x256 .f32) : FVec F S1024x256 .f32 :=
  shapeCast S1024x256 (extractStridedSlice S1x1024x256 ![3, 0, 0] C slices_S4x1024x256_S1x1024x256_3_0_0) shapeCasts_S1x1024x256_S1024x256

variable (V : Valuation τ sig (Elt F))

/-! The first layer: what it leaves, and what it leaves alone. -/

theorem layer0_pick : after layer0 V (Proc.devRef .tc main_v24) = pick (book0 (V (Proc.devRef .tc main_arg1))) (V (Proc.devRef .tc main_arg0)) := by
  simp only [layer0, normOps, argminOps, takeOps, List.cons_append, List.nil_append]
  after_reads_simp
  rfl

theorem take0 : after (takeOps (.of main_v1) (.of main_v24) main_call2) V (Proc.devRef .tc main_v25) = take (V (Proc.devRef .tc main_v1)) (V (Proc.devRef .tc main_v24)) := by
  simp only [takeOps, List.cons_append, List.nil_append]
  after_reads_simp
  simp only [TRef.ofBuf, TRef.toBuf, cast_eq]
  rfl

theorem layer0_values : after layer0 V (Proc.devRef .tc main_v25) = fetch (book0 (V (Proc.devRef .tc main_arg1))) (V (Proc.devRef .tc main_arg0)) ∧
    after layer0 V (Proc.devRef .tc main_v36) = loss (book0 (V (Proc.devRef .tc main_arg1))) (V (Proc.devRef .tc main_arg0)) zero ∧
    after layer0 V (Proc.devRef .tc main_v39) = rest (book0 (V (Proc.devRef .tc main_arg1))) (V (Proc.devRef .tc main_arg0)) := by
  have hp : after layer0 V (Proc.devRef .tc main_v24) = pick (book0 (V (Proc.devRef .tc main_arg1))) (V (Proc.devRef .tc main_arg0)) := layer0_pick V
  rw [layer0, after_append, after_append] at hp ⊢
  generalize hW : after _ V = W at hp ⊢
  have hb : W (Proc.devRef .tc main_v1) = book0 (V (Proc.devRef .tc main_arg1)) := by
    rw [← hW]
    simp only [normOps, argminOps, List.cons_append, List.nil_append]
    after_reads_simp
    rfl
  have hr : after (takeOps (.of main_v1) (.of main_v24) main_call2) W (Proc.devRef .tc main_arg0) = V (Proc.devRef .tc main_arg0) := by
    rw [← hW]
    simp only [takeOps, normOps, argminOps, List.cons_append, List.nil_append]
    after_reads_simp
  have hi : W (Proc.devRef .tc main_v24) = pick (book0 (V (Proc.devRef .tc main_arg1))) (V (Proc.devRef .tc main_arg0)) := by
    rw [← hp]
    simp only [takeOps, List.cons_append, List.nil_append]
    after_reads_simp
  have hf : after (takeOps (.of main_v1) (.of main_v24) main_call2) W (Proc.devRef .tc main_v25) = fetch (book0 (V (Proc.devRef .tc main_arg1))) (V (Proc.devRef .tc main_arg0)) := by
    rw [take0, hi, hb]; rfl
  clear hp
  generalize after (takeOps _ _ _) W = U at hr hf ⊢
  refine ⟨?_, ?_, ?_⟩
  · rw [← hf]
    after_reads_simp
  · rw [loss, miss, ← hf, ← hr]
    after_reads_simp
    rfl
  · rw [rest, ← hf, ← hr]
    after_reads_simp

theorem layer0_keep : after layer0 V (Proc.devRef .tc main_arg1) = V (Proc.devRef .tc main_arg1) := by
  simp only [layer0, normOps, argminOps, takeOps, List.cons_append, List.nil_append]
  after_reads_simp

/-! The second layer: what it leaves, and what it leaves alone. -/

theorem layer1_pick : after layer1 V (Proc.devRef .tc main_v64) = pick (book1 (V (Proc.devRef .tc main_arg1))) (V (Proc.devRef .tc main_v39)) := by
  simp only [layer1, normOps, argminOps, takeOps, List.cons_append, List.nil_append]
  after_reads_simp
  rfl

theorem take1 : after (takeOps (.of main_v41) (.of main_v64) main_call5) V (Proc.devRef .tc main_v65) = take (V (Proc.devRef .tc main_v41)) (V (Proc.devRef .tc main_v64)) := by
  simp only [takeOps, List.cons_append, List.nil_append]
  after_reads_simp
  simp only [TRef.ofBuf, TRef.toBuf, cast_eq]
  rfl

theorem layer1_values : after layer1 V (Proc.devRef .tc main_v65) = fetch (book1 (V (Proc.devRef .tc main_arg1))) (V (Proc.devRef .tc main_v39)) ∧
    after layer1 V (Proc.devRef .tc main_v76) = loss (book1 (V (Proc.devRef .tc main_arg1))) (V (Proc.devRef .tc main_v39)) (V (Proc.devRef .tc main_v36)) ∧
    after layer1 V (Proc.devRef .tc main_v79) = rest (book1 (V (Proc.devRef .tc main_arg1))) (V (Proc.devRef .tc main_v39)) := by
  have hp : after layer1 V (Proc.devRef .tc main_v64) = pick (book1 (V (Proc.devRef .tc main_arg1))) (V (Proc.devRef .tc main_v39)) := layer1_pick V
  rw [layer1, after_append, after_append] at hp ⊢
  generalize hW : after _ V = W at hp ⊢
  have hb : W (Proc.devRef .tc main_v41) = book1 (V (Proc.devRef .tc main_arg1)) := by
    rw [← hW]
    simp only [normOps, argminOps, List.cons_append, List.nil_append]
    after_reads_simp
    rfl
  have hr : after (takeOps (.of main_v41) (.of main_v64) main_call5) W (Proc.devRef .tc main_v39) = V (Proc.devRef .tc main_v39) := by
    rw [← hW]
    simp only [takeOps, normOps, argminOps, List.cons_append, List.nil_append]
    after_reads_simp
  have hi : W (Proc.devRef .tc main_v64) = pick (book1 (V (Proc.devRef .tc main_arg1))) (V (Proc.devRef .tc main_v39)) := by
    rw [← hp]
    simp only [takeOps, List.cons_append, List.nil_append]
    after_reads_simp
  have hl : after (takeOps (.of main_v41) (.of main_v64) main_call5) W (Proc.devRef .tc main_v36) = V (Proc.devRef .tc main_v36) := by
    rw [← hW]
    simp only [takeOps, normOps, argminOps, List.cons_append, List.nil_append]
    after_reads_simp
  have hf : after (takeOps (.of main_v41) (.of main_v64) main_call5) W (Proc.devRef .tc main_v65) = fetch (book1 (V (Proc.devRef .tc main_arg1))) (V (Proc.devRef .tc main_v39)) := by
    rw [take1, hi, hb]; rfl
  clear hp
  generalize after (takeOps _ _ _) W = U at hr hf hl ⊢
  refine ⟨?_, ?_, ?_⟩
  · rw [← hf]
    after_reads_simp
  · rw [loss, miss, ← hf, ← hr, ← hl]
    after_reads_simp
    rfl
  · rw [rest, ← hf, ← hr]
    after_reads_simp

theorem layer1_keep : after layer1 V (Proc.devRef .tc main_arg1) = V (Proc.devRef .tc main_arg1) ∧
    after layer1 V (Proc.devRef .tc main_v24) = V (Proc.devRef .tc main_v24) ∧
    after layer1 V (Proc.devRef .tc main_v25) = V (Proc.devRef .tc main_v25) := by
  simp only [layer1, normOps, argminOps, takeOps, List.cons_append, List.nil_append]
  refine ⟨?_, ?_, ?_⟩ <;> after_reads_simp

/-! The third layer: what it leaves, and what it leaves alone. -/

theorem layer2_pick : after layer2 V (Proc.devRef .tc main_v104) = pick (book2 (V (Proc.devRef .tc main_arg1))) (V (Proc.devRef .tc main_v79)) := by
  simp only [layer2, normOps, argminOps, takeOps, List.cons_append, List.nil_append]
  after_reads_simp
  rfl

theorem take2 : after (takeOps (.of main_v81) (.of main_v104) main_call8) V (Proc.devRef .tc main_v105) = take (V (Proc.devRef .tc main_v81)) (V (Proc.devRef .tc main_v104)) := by
  simp only [takeOps, List.cons_append, List.nil_append]
  after_reads_simp
  simp only [TRef.ofBuf, TRef.toBuf, cast_eq]
  rfl

theorem layer2_values : after layer2 V (Proc.devRef .tc main_v105) = fetch (book2 (V (Proc.devRef .tc main_arg1))) (V (Proc.devRef .tc main_v79)) ∧
    after layer2 V (Proc.devRef .tc main_v116) = loss (book2 (V (Proc.devRef .tc main_arg1))) (V (Proc.devRef .tc main_v79)) (V (Proc.devRef .tc main_v76)) ∧
    after layer2 V (Proc.devRef .tc main_v119) = rest (book2 (V (Proc.devRef .tc main_arg1))) (V (Proc.devRef .tc main_v79)) := by
  have hp : after layer2 V (Proc.devRef .tc main_v104) = pick (book2 (V (Proc.devRef .tc main_arg1))) (V (Proc.devRef .tc main_v79)) := layer2_pick V
  rw [layer2, after_append, after_append] at hp ⊢
  generalize hW : after _ V = W at hp ⊢
  have hb : W (Proc.devRef .tc main_v81) = book2 (V (Proc.devRef .tc main_arg1)) := by
    rw [← hW]
    simp only [normOps, argminOps, List.cons_append, List.nil_append]
    after_reads_simp
    rfl
  have hr : after (takeOps (.of main_v81) (.of main_v104) main_call8) W (Proc.devRef .tc main_v79) = V (Proc.devRef .tc main_v79) := by
    rw [← hW]
    simp only [takeOps, normOps, argminOps, List.cons_append, List.nil_append]
    after_reads_simp
  have hi : W (Proc.devRef .tc main_v104) = pick (book2 (V (Proc.devRef .tc main_arg1))) (V (Proc.devRef .tc main_v79)) := by
    rw [← hp]
    simp only [takeOps, List.cons_append, List.nil_append]
    after_reads_simp
  have hl : after (takeOps (.of main_v81) (.of main_v104) main_call8) W (Proc.devRef .tc main_v76) = V (Proc.devRef .tc main_v76) := by
    rw [← hW]
    simp only [takeOps, normOps, argminOps, List.cons_append, List.nil_append]
    after_reads_simp
  have hf : after (takeOps (.of main_v81) (.of main_v104) main_call8) W (Proc.devRef .tc main_v105) = fetch (book2 (V (Proc.devRef .tc main_arg1))) (V (Proc.devRef .tc main_v79)) := by
    rw [take2, hi, hb]; rfl
  clear hp
  generalize after (takeOps _ _ _) W = U at hr hf hl ⊢
  refine ⟨?_, ?_, ?_⟩
  · rw [← hf]
    after_reads_simp
  · rw [loss, miss, ← hf, ← hr, ← hl]
    after_reads_simp
    rfl
  · rw [rest, ← hf, ← hr]
    after_reads_simp

theorem layer2_keep : after layer2 V (Proc.devRef .tc main_arg1) = V (Proc.devRef .tc main_arg1) ∧
    after layer2 V (Proc.devRef .tc main_v24) = V (Proc.devRef .tc main_v24) ∧
    after layer2 V (Proc.devRef .tc main_v25) = V (Proc.devRef .tc main_v25) ∧
    after layer2 V (Proc.devRef .tc main_v64) = V (Proc.devRef .tc main_v64) ∧
    after layer2 V (Proc.devRef .tc main_v65) = V (Proc.devRef .tc main_v65) := by
  simp only [layer2, normOps, argminOps, takeOps, List.cons_append, List.nil_append]
  refine ⟨?_, ?_, ?_, ?_, ?_⟩ <;> after_reads_simp

/-! The fourth layer: what it leaves, and what it leaves alone. -/

theorem layer3_pick : after layer3 V (Proc.devRef .tc main_v144) = pick (book3 (V (Proc.devRef .tc main_arg1))) (V (Proc.devRef .tc main_v119)) := by
  simp only [layer3, normOps, argminOps, takeOps, List.cons_append, List.nil_append]
  after_reads_simp
  rfl

theorem take3 : after (takeOps (.of main_v121) (.of main_v144) main_call11) V (Proc.devRef .tc main_v145) = take (V (Proc.devRef .tc main_v121)) (V (Proc.devRef .tc main_v144)) := by
  simp only [takeOps, List.cons_append, List.nil_append]
  after_reads_simp
  simp only [TRef.ofBuf, TRef.toBuf, cast_eq]
  rfl

theorem layer3_values : after layer3 V (Proc.devRef .tc main_v145) = fetch (book3 (V (Proc.devRef .tc main_arg1))) (V (Proc.devRef .tc main_v119)) ∧
    after layer3 V (Proc.devRef .tc main_v156) = loss (book3 (V (Proc.devRef .tc main_arg1))) (V (Proc.devRef .tc main_v119)) (V (Proc.devRef .tc main_v116)) := by
  have hp : after layer3 V (Proc.devRef .tc main_v144) = pick (book3 (V (Proc.devRef .tc main_arg1))) (V (Proc.devRef .tc main_v119)) := layer3_pick V
  rw [layer3, after_append, after_append] at hp ⊢
  generalize hW : after _ V = W at hp ⊢
  have hb : W (Proc.devRef .tc main_v121) = book3 (V (Proc.devRef .tc main_arg1)) := by
    rw [← hW]
    simp only [normOps, argminOps, List.cons_append, List.nil_append]
    after_reads_simp
    rfl
  have hr : after (takeOps (.of main_v121) (.of main_v144) main_call11) W (Proc.devRef .tc main_v119) = V (Proc.devRef .tc main_v119) := by
    rw [← hW]
    simp only [takeOps, normOps, argminOps, List.cons_append, List.nil_append]
    after_reads_simp
  have hi : W (Proc.devRef .tc main_v144) = pick (book3 (V (Proc.devRef .tc main_arg1))) (V (Proc.devRef .tc main_v119)) := by
    rw [← hp]
    simp only [takeOps, List.cons_append, List.nil_append]
    after_reads_simp
  have hl : after (takeOps (.of main_v121) (.of main_v144) main_call11) W (Proc.devRef .tc main_v116) = V (Proc.devRef .tc main_v116) := by
    rw [← hW]
    simp only [takeOps, normOps, argminOps, List.cons_append, List.nil_append]
    after_reads_simp
  have hf : after (takeOps (.of main_v121) (.of main_v144) main_call11) W (Proc.devRef .tc main_v145) = fetch (book3 (V (Proc.devRef .tc main_arg1))) (V (Proc.devRef .tc main_v119)) := by
    rw [take3, hi, hb]; rfl
  clear hp
  generalize after (takeOps _ _ _) W = U at hr hf hl ⊢
  refine ⟨?_, ?_⟩
  · rw [← hf]
    after_reads_simp
  · rw [loss, miss, ← hf, ← hr, ← hl]
    after_reads_simp
    rfl

theorem layer3_keep : after layer3 V (Proc.devRef .tc main_arg1) = V (Proc.devRef .tc main_arg1) ∧
    after layer3 V (Proc.devRef .tc main_v24) = V (Proc.devRef .tc main_v24) ∧
    after layer3 V (Proc.devRef .tc main_v25) = V (Proc.devRef .tc main_v25) ∧
    after layer3 V (Proc.devRef .tc main_v64) = V (Proc.devRef .tc main_v64) ∧
    after layer3 V (Proc.devRef .tc main_v65) = V (Proc.devRef .tc main_v65) ∧
    after layer3 V (Proc.devRef .tc main_v104) = V (Proc.devRef .tc main_v104) ∧
    after layer3 V (Proc.devRef .tc main_v105) = V (Proc.devRef .tc main_v105) := by
  simp only [layer3, normOps, argminOps, takeOps, List.cons_append, List.nil_append]
  refine ⟨?_, ?_, ?_, ?_, ?_, ?_, ?_⟩ <;> after_reads_simp

/-! The closing lines: the four lists of entries side by side, and the sum of the four lists of rows. -/

/-- Four lists of entries side by side. -/
def beside (i₀ i₁ i₂ i₃ : IVec S16384 32) : IVec S16384x4 32 :=
  concatenate S16384x4 1
    [⟨S16384x1, broadcastInDim S16384x1 ![0] bcast_S16384_S16384x1_0 i₀⟩, ⟨S16384x1, broadcastInDim S16384x1 ![0] bcast_S16384_S16384x1_0 i₁⟩,
      ⟨S16384x1, broadcastInDim S16384x1 ![0] bcast_S16384_S16384x1_0 i₂⟩, ⟨S16384x1, broadcastInDim S16384x1 ![0] bcast_S16384_S16384x1_0 i₃⟩]
    concatenates_S16384x1_S16384x1_S16384x1_S16384x1_S16384x4_d1

/-- The sum of four lists of rows. -/
def total (q₀ q₁ q₂ q₃ : FVec F S16384x256 .f32) : FVec F S16384x256 .f32 :=
  Host.reduceAdd
    (concatenate S4x16384x256 0
      [⟨S1x16384x256, broadcastInDim S1x16384x256 ![1, 2] bcast_S16384x256_S1x16384x256_1_2 q₀⟩,
        ⟨S1x16384x256, broadcastInDim S1x16384x256 ![1, 2] bcast_S16384x256_S1x16384x256_1_2 q₁⟩,
        ⟨S1x16384x256, broadcastInDim S1x16384x256 ![1, 2] bcast_S16384x256_S1x16384x256_1_2 q₂⟩,
        ⟨S1x16384x256, broadcastInDim S1x16384x256 ![1, 2] bcast_S16384x256_S1x16384x256_1_2 q₃⟩]
      concatenates_S1x16384x256_S1x16384x256_S1x16384x256_S1x16384x256_S4x16384x256_d0)
    zero reducesTo_S4x16384x256_S16384x256_d0 h_S_

theorem closing_ids : after closing V (Proc.devRef .tc main_v164) =
    beside (V (Proc.devRef .tc main_v24)) (V (Proc.devRef .tc main_v64)) (V (Proc.devRef .tc main_v104)) (V (Proc.devRef .tc main_v144)) := by
  simp only [closing]
  after_reads_simp
  rfl

theorem closing_total : after closing V (Proc.devRef .tc main_v170) =
    total (V (Proc.devRef .tc main_v25)) (V (Proc.devRef .tc main_v65)) (V (Proc.devRef .tc main_v105)) (V (Proc.devRef .tc main_v145)) := by
  simp only [closing]
  after_reads_simp
  rfl

theorem closing_keep : after closing V (Proc.devRef .tc main_v156) = V (Proc.devRef .tc main_v156) := by
  simp only [closing]
  after_reads_simp

/-! ## The whole reference -/

variable (C : FVec F S4x1024x256 .f32) (X : FVec F S16384x256 .f32)

/-- The rows left after one, two and three stages. -/
def left1 : FVec F S16384x256 .f32 := rest (book0 C) X
@[inherit_doc left1] def left2 : FVec F S16384x256 .f32 := rest (book1 C) (left1 C X)
@[inherit_doc left1] def left3 : FVec F S16384x256 .f32 := rest (book2 C) (left2 C X)

/-- The three results. -/
def ids : IVec S16384x4 32 :=
  beside (pick (book0 C) X) (pick (book1 C) (left1 C X)) (pick (book2 C) (left2 C X)) (pick (book3 C) (left3 C X))
@[inherit_doc ids] def rows : FVec F S16384x256 .f32 :=
  total (fetch (book0 C) X) (fetch (book1 C) (left1 C X)) (fetch (book2 C) (left2 C X)) (fetch (book3 C) (left3 C X))
@[inherit_doc ids] def cost : FVec F S_ .f32 :=
  loss (book3 C) (left3 C X) (loss (book2 C) (left2 C X) (loss (book1 C) (left1 C X) (loss (book0 C) X zero)))

theorem ops_ids : after ops V (Proc.devRef .tc main_v164) = ids (V (Proc.devRef .tc main_arg1)) (V (Proc.devRef .tc main_arg0)) := by
  rw [ops, after_append, after_append, after_append, after_append, closing_ids]
  rw [(layer3_keep _).2.1, (layer2_keep _).2.1, (layer1_keep _).2.1, layer0_pick,
    (layer3_keep _).2.2.2.1, (layer2_keep _).2.2.2.1, layer1_pick, (layer3_keep _).2.2.2.2.2.1, layer2_pick, layer3_pick]
  rw [(layer2_values _).2.2, (layer2_keep _).1, (layer1_values _).2.2, (layer1_keep _).1, (layer0_values _).2.2, layer0_keep]
  rfl

theorem ops_rows : after ops V (Proc.devRef .tc main_v170) = rows (V (Proc.devRef .tc main_arg1)) (V (Proc.devRef .tc main_arg0)) := by
  rw [ops, after_append, after_append, after_append, after_append, closing_total]
  rw [(layer3_keep _).2.2.1, (layer2_keep _).2.2.1, (layer1_keep _).2.2, (layer0_values _).1,
    (layer3_keep _).2.2.2.2.1, (layer2_keep _).2.2.2.2, (layer1_values _).1, (layer3_keep _).2.2.2.2.2.2, (layer2_values _).1, (layer3_values _).1]
  rw [(layer2_values _).2.2, (layer2_keep _).1, (layer1_values _).2.2, (layer1_keep _).1, (layer0_values _).2.2, layer0_keep]
  rfl

theorem ops_cost : after ops V (Proc.devRef .tc main_v156) = cost (V (Proc.devRef .tc main_arg1)) (V (Proc.devRef .tc main_arg0)) := by
  rw [ops, after_append, after_append, after_append, after_append, closing_keep, (layer3_values _).2, (layer2_values _).2.1, (layer1_values _).2.1, (layer0_values _).2.1]
  rw [(layer2_values _).2.2, (layer2_keep _).1, (layer1_values _).2.2, (layer1_keep _).1, (layer0_values _).2.2, layer0_keep]
  rfl

end Cert.ReferenceIdeal.Stage
-- ==== Proof.Spec.lean ====
/-
  The problem over the reals.

  A row is explained stage by stage: each stage finds the first codebook entry that lies nearest (by the entry scaled to unit
  length), and leaves the row less that entry.  Both programs are read as these functions.
-/
module

public import Idealize.ShloMosaic.Lib.Pointwise

@[expose] public section

set_option maxRecDepth 16384

noncomputable section

namespace Cert.Spec

open Idealize.ShloMosaic

/-- A row, and a codebook. -/
abbrev Row := Fin 256 → ℝ
@[inherit_doc Row] abbrev Book := Fin 1024 → Fin 256 → ℝ

/-! ## The first least place -/

/-- `k` is the first place where `f` is least. -/
def IsFirst {n : ℕ} (f : Fin n → ℝ) (k : Fin n) : Prop := (∀ j, f k ≤ f j) ∧ ∀ j, j < k → f k < f j

theorem IsFirst.unique {n : ℕ} {f : Fin n → ℝ} {a b : Fin n} (ha : IsFirst f a) (hb : IsFirst f b) : a = b := by
  rcases lt_trichotomy a b with h | h | h
  · exact absurd (hb.2 a h) (not_lt.mpr (ha.1 b))
  · exact h
  · exact absurd (ha.2 b h) (not_lt.mpr (hb.1 a))

theorem exists_isFirst {n : ℕ} [NeZero n] (f : Fin n → ℝ) : ∃ k, IsFirst f k := by
  obtain ⟨m, -, hm⟩ := Finset.exists_min_image (Finset.univ : Finset (Fin n)) f ⟨0, Finset.mem_univ _⟩
  obtain ⟨k, hk, hmin⟩ := Finset.exists_min_image (Finset.univ.filter fun k => f k = f m) id ⟨m, by simp⟩
  have hkm : f k = f m := (Finset.mem_filter.1 hk).2
  refine ⟨k, fun j => by rw [hkm]; exact hm j (Finset.mem_univ _), fun j hj => ?_⟩
  refine lt_of_le_of_ne (by rw [hkm]; exact hm j (Finset.mem_univ _)) fun e => ?_
  exact absurd (hmin j (by simp [← e, hkm])) (not_le.mpr hj)

/-- The first place where `f` is least. -/
def first {n : ℕ} [NeZero n] (f : Fin n → ℝ) : Fin n := (exists_isFirst f).choose

theorem first_spec {n : ℕ} [NeZero n] (f : Fin n → ℝ) : IsFirst f (first f) := (exists_isFirst f).choose_spec

theorem first_le {n : ℕ} [NeZero n] (f : Fin n → ℝ) (j : Fin n) : f (first f) ≤ f j := (first_spec f).1 j

theorem first_lt {n : ℕ} [NeZero n] (f : Fin n → ℝ) (j : Fin n) (h : j < first f) : f (first f) < f j := (first_spec f).2 j h

/-- Taking square roots does not move the first least place. -/
theorem first_sqrt {n : ℕ} [NeZero n] (f : Fin n → ℝ) (h : ∀ k, 0 ≤ f k) : first (fun k => √(f k)) = first f :=
  (first_spec fun k => √(f k)).unique
    ⟨fun j => Real.sqrt_le_sqrt (first_le f j), fun j hj => Real.sqrt_lt_sqrt (h _) (first_lt f j hj)⟩

/-! ## One stage -/

/-- The floor under a codebook entry's length. -/
def floor : ℝ := (Ideal.ofBits .f32 0x2B8CBCCC#32).toReal

/-- A codebook's entries scaled to unit length. -/
def unit (e : Book) : Book := fun k d => e k d / max (√(∑ d, e k d * e k d)) floor

/-- The squared distance of a row from an entry, as both programs write it. -/
def gap (u : Book) (r : Row) (k : Fin 1024) : ℝ := (∑ d, r d * r d) + (∑ d, u k d * u k d) - 2 * ∑ d, r d * u k d

theorem gap_nonneg (u : Book) (r : Row) (k : Fin 1024) : 0 ≤ gap u r k := by
  have h : gap u r k = ∑ d, (r d - u k d) * (r d - u k d) := by
    rw [gap, Finset.mul_sum, ← Finset.sum_add_distrib, ← Finset.sum_sub_distrib]
    exact Finset.sum_congr rfl fun d _ => by ring
  rw [h]
  exact Finset.sum_nonneg fun d _ => mul_self_nonneg _

/-- The entry a stage chooses. -/
def pick (e : Book) (r : Row) : Fin 1024 := first (gap (unit e) r)

/-- What a stage leaves of the row. -/
def rest (e : Book) (r : Row) : Row := fun d => r d - e (pick e r) d

/-- A row's squared length. -/
def sq (r : Row) : ℝ := ∑ d, r d * r d

/-! ## Four stages -/

section Stages

variable (C : Fin 4 → Book) (r : Row)

/-- What is left of a row after one, two, three and four stages. -/
def left1 : Row := rest (C 0) r
@[inherit_doc left1] def left2 : Row := rest (C 1) (left1 C r)
@[inherit_doc left1] def left3 : Row := rest (C 2) (left2 C r)
@[inherit_doc left1] def left4 : Row := rest (C 3) (left3 C r)

/-- The entries the four stages choose. -/
def ids : Fin 4 → Fin 1024 := ![pick (C 0) r, pick (C 1) (left1 C r), pick (C 2) (left2 C r), pick (C 3) (left3 C r)]

/-- The squared lengths left after each stage, added up. -/
def spent : ℝ := sq (left1 C r) + sq (left2 C r) + sq (left3 C r) + sq (left4 C r)

end Stages

/-! ## Sums of reals inside the extended reals -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The programs' constants -/

theorem floor_coe : Ideal.ofBits .f32 0x2B8CBCCC#32 = ((floor : ℝ) : EReal) := by
  rw [floor]
  simp [Ideal.ofBits, Ideal.ieee, -EReal.coe_mul]

theorem floor_pos : 0 < floor := by
  rw [floor]
  simp [Ideal.ofBits, Ideal.ieee, -EReal.coe_mul]

theorem two_coe : Ideal.ofBits .f32 0x40000000#32 = ((2 : ℝ) : EReal) := by
  simp [Ideal.ofBits, Ideal.ieee, -EReal.coe_mul]; norm_num
theorem eight_coe : Ideal.ofBits .f32 0x41000000#32 = ((8 : ℝ) : EReal) := by
  simp [Ideal.ofBits, Ideal.ieee, -EReal.coe_mul]; norm_num
theorem lanes_coe : Ideal.ofBits .f32 0x43000000#32 = ((128 : ℝ) : EReal) := by
  simp [Ideal.ofBits, Ideal.ieee, -EReal.coe_mul]; norm_num
theorem entries_coe : Ideal.ofBits .f32 0x44800000#32 = ((1024 : ℝ) : EReal) := by
  simp [Ideal.ofBits, Ideal.ieee, -EReal.coe_mul]; norm_num
theorem quarter_coe : Ideal.ofBits .f32 0x3E800000#32 = ((1 / 4 : ℝ) : EReal) := by
  simp [Ideal.ofBits, Ideal.ieee, -EReal.coe_mul]; norm_num
theorem count_coe : Ideal.ofBits .f32 0x4A800000#32 = ((4194304 : ℝ) : EReal) := by
  simp [Ideal.ofBits, Ideal.ieee, -EReal.coe_mul]; norm_num
theorem share_coe : Ideal.ofBits .f32 0x34A00000#32 = ((5 / 16777216 : ℝ) : EReal) := by
  simp [Ideal.ofBits, Ideal.ieee, -EReal.coe_mul]; norm_num
theorem top_coe : Ideal.ofBits .f32 0x7F800000#32 = ⊤ := by
  simp [Ideal.ofBits, Ideal.ieee]
theorem bot_coe : Ideal.ofBits .f32 0xFF800000#32 = ⊥ := by
  simp [Ideal.ofBits, Ideal.ieee]
theorem zero_coe : Ideal.ofBits .f32 0x00000000#32 = 0 := by
  simp [Ideal.ofBits, Ideal.ieee]

end Cert.Spec
-- ==== Proof.RefNearest.lean ====
/-
  The reference's search for the nearest entry: its comparison of two candidates keeps the lesser distance and, of equal
  distances, the lesser number, so over a row of real distances it ends at the first least place.
-/
module

public import proofs.«01_k».proof.Proof.RefStage
public import proofs.«01_k».proof.Proof.Spec
public import Idealize.ShloMosaic.Lib.Pointwise

@[expose] public section

set_option maxRecDepth 65536

noncomputable section

namespace Cert.ReferenceIdeal.Stage

open Idealize.ShloMosaic Idealize.SL.Sem Cert.ReferenceIdeal Facts₀ Facts

/-- A fold that keeps the lesser of two ends at an element below all the others. -/
theorem foldl_least {α : Type} (lt : α → α → Prop) [DecidableRel lt] (asymm : ∀ a b, lt a b → ¬ lt b a) (step : α → α → α)
    (hstep : ∀ a b, step a b = if lt a b then a else b) (x : α) :
    ∀ (l : List α) (a : α), (a = x ∨ lt x a) → (∀ y ∈ l, y = x ∨ lt x y) → (a = x ∨ x ∈ l) → l.foldl step a = x
  | [], a, _, _, hx => by
    rcases hx with h | h
    · exact h
    · cases h
  | b :: l, a, ha, hl, hx => by
    have hirr : ¬ lt x x := fun h => asymm _ _ h h
    have hb : b = x ∨ lt x b := hl b (List.mem_cons_self ..)
    rw [List.foldl_cons]
    refine foldl_least lt asymm step hstep x l _ ?_ (fun y hy => hl y (List.mem_cons_of_mem _ hy)) ?_
    · rw [hstep]
      split
      · exact ha
      · exact hb
    · rw [hstep]
      rcases ha with rfl | ha
      · rcases hb with rfl | hb
        · exact .inl (ite_self _)
        · exact .inl (if_pos hb)
      · rcases hb with rfl | hb
        · exact .inl (if_neg (asymm _ _ ha))
        · rcases hx with rfl | hx
          · exact absurd ha hirr
          · rcases List.mem_cons.1 hx with rfl | hx
            · exact absurd hb hirr
            · exact .inr hx

/-- The order the comparison goes by. -/
def Before (a b : Ideal .f32 × BitVec 32) : Prop := (a.1 : EReal) < b.1 ∨ ((a.1 : EReal) = b.1 ∧ a.2.toInt < b.2.toInt)

theorem before_asymm (a b : Ideal .f32 × BitVec 32) (h : Before a b) : ¬ Before b a := by
  rintro (h' | ⟨e', h'⟩)
  · rcases h with h | ⟨e, h⟩
    · exact lt_asymm h h'
    · exact absurd h' (e ▸ lt_irrefl _)
  · rcases h with h | ⟨e, h⟩
    · exact absurd h (e' ▸ lt_irrefl _)
    · exact lt_asymm h h'

theorem ori_one (x : BitVec 1) : IntOp.ori 1#1 x = 1#1 := by
  revert x
  decide

open Classical in
/-- The comparison keeps the earlier of two candidates. -/
theorem compare_eq (a b : Ideal .f32 × BitVec 32) : reducer_argmin_f32_i32 a b = if Before a b then a else b := by
  obtain ⟨x, i⟩ := a
  obtain ⟨y, j⟩ := b
  have hx : (FloatOps.cmpf .une x x : BitVec 1) = 0#1 := by simp [Ideal.cmpf_def, Ideal.cmp]
  simp only [reducer_argmin_f32_i32, hx]
  change EReal at x y
  rcases lt_trichotomy (x : EReal) y with h | h | h
  · have h1 : (FloatOps.cmpf (F := Ideal) (φ := .f32) .olt x y : BitVec 1) = 1#1 := by simp [Ideal.cmpf_def, Ideal.cmp, h]
    rw [if_pos (.inl h), h1, ori_one, ori_one]
    simp [Scalar.select]
  · subst h
    have h1 : (FloatOps.cmpf (F := Ideal) (φ := .f32) .olt x x : BitVec 1) = 0#1 := by simp [Ideal.cmpf_def, Ideal.cmp]
    have h2 : (FloatOps.cmpf (F := Ideal) (φ := .f32) .oeq x x : BitVec 1) = 1#1 := by simp [Ideal.cmpf_def, Ideal.cmp]
    rw [h1, h2]
    by_cases hij : i.toInt < j.toInt
    · have h3 : IntOp.cmpi .slt i j = 1#1 := by simp [IntOp.cmpi, BitVec.slt, hij]
      rw [if_pos (.inr ⟨rfl, hij⟩), h3]
      simp [IntOp.ori, IntOp.andi, Scalar.select]
    · have h3 : IntOp.cmpi .slt i j = 0#1 := by simp [IntOp.cmpi, BitVec.slt, hij]
      rw [if_neg (fun hb => hb.elim (lt_irrefl _) fun hb => hij hb.2), h3]
      simp [IntOp.ori, IntOp.andi, Scalar.select]
  · have h1 : (FloatOps.cmpf (F := Ideal) (φ := .f32) .olt x y : BitVec 1) = 0#1 := by simp [Ideal.cmpf_def, Ideal.cmp, not_lt.2 h.le]
    have h2 : (FloatOps.cmpf (F := Ideal) (φ := .f32) .oeq x y : BitVec 1) = 0#1 := by simp [Ideal.cmpf_def, Ideal.cmp, h.ne']
    rw [h1, h2, if_neg (fun hb => hb.elim (lt_asymm h) fun hb => h.ne' hb.1)]
    simp [IntOp.ori, IntOp.andi, Scalar.select]

theorem toInt_number (k : ℕ) (h : k < 1024) : (BitVec.ofNat 32 k).toInt = k := by
  have e : (BitVec.ofNat 32 k).toNat = k := by rw [BitVec.toNat_ofNat]; exact Nat.mod_eq_of_lt (by omega)
  rw [BitVec.toInt_eq_toNat_of_lt (by rw [e]; omega), e]

/-- The candidates of point `n`: every entry's distance with its number. -/
theorem mem_candidates (d : FVec Ideal S16384x1024 .f32) (n : Fin 16384) (y : Ideal .f32 × BitVec 32) :
    y ∈ Host.argReduceFiber d (iotaInDim S16384x1024 32 1) reducesTo_S16384x1024_S16384_d1 (ix1 n) ↔
      ∃ k : Fin 1024, y = (d (ix2 n k), BitVec.ofNat 32 k.val) := by
  have num : ∀ k : Fin 1024, iotaInDim S16384x1024 32 1 (ix2 n k) = BitVec.ofNat 32 k.val := fun k => rfl
  have fib := fun i => Shape.ReducesTo.fiber_r2_a1 reducesTo_S16384x1024_S16384_d1 (ix1 n) i
  rw [Host.argReduceFiber, List.mem_map]
  constructor
  · rintro ⟨p, hp, rfl⟩
    obtain ⟨k, hk⟩ := (fib _).1 (of_decide_eq_true (List.mem_filter.1 hp).2)
    have hk' : ix2 n k = S16384x1024.rowMajor.symm p := hk
    exact ⟨k, by rw [← hk', num]⟩
  · rintro ⟨k, rfl⟩
    refine ⟨S16384x1024.rowMajor (ix2 n k), List.mem_filter.2 ⟨List.mem_finRange _, decide_eq_true ?_⟩, ?_⟩
    · rw [Equiv.symm_apply_apply]
      exact (fib _).2 ⟨k, rfl⟩
    · rw [Equiv.symm_apply_apply, num]

/-- The least candidate wins. -/
theorem search_apply (l : List (Ideal .f32 × BitVec 32)) (D : Fin 1024 → ℝ)
    (hl : ∀ y, y ∈ l ↔ ∃ k : Fin 1024, y = (((D k : ℝ) : EReal), BitVec.ofNat 32 k.val)) (z : Ideal .f32 × BitVec 32) (hz : z.1 = (⊤ : EReal)) :
    l.foldl reducer_argmin_f32_i32 z = (((D (Spec.first D) : ℝ) : EReal), BitVec.ofNat 32 (Spec.first D).val) := by
  refine @foldl_least (Ideal .f32 × BitVec 32) Before (Classical.decRel _) before_asymm reducer_argmin_f32_i32 (fun a b => compare_eq a b)
    (((D (Spec.first D) : ℝ) : EReal), BitVec.ofNat 32 (Spec.first D).val) l z ?_ ?_ ?_
  · refine .inr (.inl ?_)
    rw [hz]
    exact EReal.coe_lt_top _
  · intro y hy
    obtain ⟨k, rfl⟩ := (hl y).1 hy
    rcases lt_trichotomy k (Spec.first D) with h | h | h
    · exact .inr (.inl (EReal.coe_lt_coe_iff.2 (Spec.first_lt D k h)))
    · exact .inl (by rw [h])
    · rcases (Spec.first_le D k).lt_or_eq with h' | h'
      · exact .inr (.inl (EReal.coe_lt_coe_iff.2 h'))
      · refine .inr (.inr ⟨congrArg (fun r : ℝ => (r : EReal)) h', ?_⟩)
        dsimp only
        rw [toInt_number _ (Fin.isLt _), toInt_number _ (Fin.isLt _)]
        exact_mod_cast h
  · exact .inr ((hl _).2 ⟨Spec.first D, rfl⟩)

theorem constant_at (b : BitVec 32) (i : S_.Idx) : constant (F := Ideal) S_ .f32 b i = Ideal.ofBits .f32 b := rfl

/-- The second parts of an array of pairs. -/
def seconds {s : Shape} (f : s.Idx → Ideal .f32 × BitVec 32) : IVec s 32 := fun j => (f j).2

theorem nearest_seconds (d : FVec Ideal S16384x1024 .f32) : nearest d = seconds (Host.argReduce reducer_argmin_f32_i32 d (iotaInDim S16384x1024 32 1)
    (constant S_ .f32 0x7F800000#32) (constantI S_ 32 0#32) reducesTo_S16384x1024_S16384_d1 h_S_) := by
  delta nearest seconds
  with_reducible rfl

theorem seconds_apply {s t u : Shape} {axes : List (Fin s.rank)}
    (f : Ideal .f32 × BitVec 32 → Ideal .f32 × BitVec 32 → Ideal .f32 × BitVec 32) (x : FVec Ideal s .f32) (y : s.Idx → BitVec 32) (ix : u.Idx → Ideal .f32)
    (iy : u.Idx → BitVec 32) (h : s.ReducesTo axes t) (hu : 0 < u.numel) (j : t.Idx) (p : Ideal .f32 × BitVec 32)
    (hp : (Host.argReduceFiber x y h j).foldl f (ix (Shape.Idx.first hu), iy (Shape.Idx.first hu)) = p) :
    seconds (Host.argReduce f x y ix iy h hu) j = p.2 := by
  rw [seconds, Ideal.argReduce_eq_reduce2, Host.reduce2_eq_foldl_fiber, hp]

/-- The first nearest entry, when the distances are real. -/
theorem nearest_apply (d : FVec Ideal S16384x1024 .f32) (n : Fin 16384) (D : Fin 1024 → ℝ) (hd : ∀ k, d (ix2 n k) = ((D k : ℝ) : EReal)) :
    nearest d (ix1 n) = BitVec.ofNat 32 (Spec.first D).val := by
  have hl := mem_candidates d n
  simp only [hd] at hl
  have hz : constant (F := Ideal) S_ .f32 0x7F800000#32 (Shape.Idx.first h_S_) = (⊤ : EReal) :=
    (constant_at 0x7F800000#32 (Shape.Idx.first h_S_)).trans Spec.top_coe
  rw [nearest_seconds]
  exact seconds_apply _ _ _ _ _ _ _ _ _ (search_apply _ D hl (constant (F := Ideal) S_ .f32 0x7F800000#32 (Shape.Idx.first h_S_), constantI S_ 32 0#32 (Shape.Idx.first h_S_)) hz)

end Cert.ReferenceIdeal.Stage
-- ==== Proof.RefLayer.lean ====
/-
  One stage of the reference over real values: the scaled codebook, the distances, the chosen entries, the fetched rows, what is
  left of the points, and the loss.
-/
module

public import proofs.«01_k».proof.Proof.RefNearest
public import Idealize.ShloMosaic.Lib.ReduceAll
public import Idealize.ShloMosaic.Lib.Routing.Ops

@[expose] public section

set_option maxRecDepth 65536

noncomputable section

namespace Cert.ReferenceIdeal.Stage

open Idealize.ShloMosaic Idealize.SL.Sem Cert.ReferenceIdeal Facts₀ Facts

variable {e : FVec Ideal S1024x256 .f32} {E : Spec.Book} (he : ∀ k d, e (ix2 k d) = ((E k d : ℝ) : EReal))
  {r : FVec Ideal S16384x256 .f32} {R : Fin 16384 → Spec.Row} (hr : ∀ n d, r (ix2 n d) = ((R n d : ℝ) : EReal))

include he in
/-- A scaled entry. -/
theorem unitRows_apply (k : Fin 1024) (d : Fin 256) : unitRows e (ix2 k d) = ((Spec.unit E k d : ℝ) : EReal) := by
  have hs : 0 ≤ ∑ x, E k x * E k x := Finset.sum_nonneg fun x _ => mul_self_nonneg _
  have hm : max (√(∑ x, E k x * E k x)) Spec.floor ≠ 0 := (lt_of_lt_of_le Spec.floor_pos (le_max_right _ _)).ne'
  pointwise [unitRows, zero]
  simp only [he, ← EReal.coe_mul, ← Spec.coe_sum, Spec.floor_coe, Spec.zero_coe, zero_add]
  rw [Ideal.sqrt_coe, if_neg (not_lt.2 hs), ← EReal.coe_strictMono.monotone.map_max, Ideal.div_coe hm, ← EReal.coe_mul, Spec.unit, mul_one_div]

include he hr in
/-- A distance, to entries as they stand. -/
theorem dist_apply (n : Fin 16384) (k : Fin 1024) : dist e r (ix2 n k) = ((√(Spec.gap E (R n) k) : ℝ) : EReal) := by
  have hg := Spec.gap_nonneg E (R n) k
  pointwise [dist, zero]
  simp only [he, hr, ← EReal.coe_mul, ← Spec.coe_sum, Spec.two_coe, Spec.zero_coe, zero_add, ← EReal.coe_add, ← EReal.coe_sub]
  have h0 : max (((∑ d, R n d * R n d) + (∑ d, E k d * E k d) - 2 * ∑ d, R n d * E k d : ℝ) : EReal) 0 = ((Spec.gap E (R n) k : ℝ) : EReal) :=
    max_eq_left (EReal.coe_nonneg.2 hg)
  rw [h0, Ideal.sqrt_coe, if_neg (not_lt.2 hg)]

include he hr in
/-- The chosen entry. -/
theorem pick_apply (n : Fin 16384) : pick e r (ix1 n) = BitVec.ofNat 32 (Spec.pick E (R n)).val := by
  unfold pick
  rw [nearest_apply _ n _ fun k => dist_apply (unitRows_apply he) hr n k, Spec.first_sqrt _ (Spec.gap_nonneg _ _)]
  rfl

section Take

variable {i : IVec S16384 32} {I : Fin 16384 → Fin 1024} (hi : ∀ n, i (ix1 n) = BitVec.ofNat 32 (I n).val)

theorem toInt_entry (k : Fin 1024) : (BitVec.ofNat 32 k.val).toInt = k.val := toInt_number _ k.isLt

include hi in
/-- An entry's number is not negative and stays as it is. -/
theorem wrapped_apply (n : Fin 16384) (z : Fin 1) : wrapped i (ix2 n z) = BitVec.ofNat 32 (I n).val := by
  have h : IntOp.cmpi .slt (BitVec.ofNat 32 (I n).val) 0#32 = 0#1 := by
    have : ¬ (BitVec.ofNat 32 (I n).val).toInt < 0 := by rw [toInt_entry]; omega
    simp [IntOp.cmpi, BitVec.slt, this]
  pointwise [wrapped]
  rw [hi n, h]
  rfl

include hi in
/-- The fetched row. -/
theorem take_apply (e : FVec Ideal S1024x256 .f32) (n : Fin 16384) (d : Fin 256) : take e i (ix2 n d) = e (ix2 (I n) d) := by
  have hg : Host.gather gather_S1024x256_S16384x1_S16384x256_1_0_n_n_0_1_1256 e (wrapped i) (ix2 n d) = e (ix2 (I n) d) :=
    Routing.gather_row gather_S1024x256_S16384x1_S16384x256_1_0_n_n_0_1_1256 rfl rfl rfl rfl rfl e (wrapped i) n d (I n) (wrapped_apply hi n 0) (by norm_num)
  have hw : ∀ a b, andi (cmpi .sge (wrapped i) (broadcastInDim S16384x1 ![] bcast_S_S16384x1 (constantI S_ 32 0#32)))
      (cmpi .sle (wrapped i)
        (broadcastInDim S16384x1 ![0, 1] bcast_S1x1_S16384x1_0_1 (broadcastInDim S1x1 ![1] bcast_S1_S1x1_1 (constantI S1 32 1023#32)))) (ix2 a b) = 1#1 := by
    intro a b
    have h1 : IntOp.cmpi .sge (BitVec.ofNat 32 (I a).val) 0#32 = 1#1 := by
      have : (0 : ℤ) ≤ (BitVec.ofNat 32 (I a).val).toInt := by rw [toInt_entry]; omega
      simp [IntOp.cmpi, BitVec.sle, this]
    have h2 : IntOp.cmpi .sle (BitVec.ofNat 32 (I a).val) 1023#32 = 1#1 := by
      have : (BitVec.ofNat 32 (I a).val).toInt ≤ 1023 := by rw [toInt_entry]; omega
      simp [IntOp.cmpi, BitVec.sle, this]
    pointwise
    rw [wrapped_apply hi a, h1, h2]
    rfl
  have hm : ∀ j, Host.reduce IntOp.andi
      (andi (cmpi .sge (wrapped i) (broadcastInDim S16384x1 ![] bcast_S_S16384x1 (constantI S_ 32 0#32)))
        (cmpi .sle (wrapped i)
          (broadcastInDim S16384x1 ![0, 1] bcast_S1x1_S16384x1_0_1 (broadcastInDim S1x1 ![1] bcast_S1_S1x1_1 (constantI S1 32 1023#32)))))
      (constantI S_ 1 1#1) reducesTo_S16384x1_S16384_d1 h_S_ j = 1#1 := by
    intro j
    refine Host.reduce_andi_one _ _ _ _ _ rfl fun y => ?_
    revert y
    intro (y : S16384x1.Idx)
    idx_vars y
    exact hw _ _
  unfold take
  generalize Host.reduce IntOp.andi _ _ _ _ = M at hm ⊢
  generalize Host.gather _ e (wrapped i) = G at hg ⊢
  pointwise
  rw [hm, hg]
  rfl

end Take

include he hr in
/-- The chosen entry's row. -/
theorem fetch_apply (n : Fin 16384) (d : Fin 256) : fetch e r (ix2 n d) = ((E (Spec.pick E (R n)) d : ℝ) : EReal) := by
  unfold fetch
  rw [take_apply (pick_apply he hr), he]

include he hr in
/-- What the stage leaves. -/
theorem rest_apply (n : Fin 16384) (d : Fin 256) : rest e r (ix2 n d) = ((Spec.rest E (R n) d : ℝ) : EReal) := by
  pointwise [rest]
  rw [fetch_apply he hr, hr, ← EReal.coe_sub, ← EReal.coe_add, ← EReal.coe_sub, Spec.rest]
  congr 1
  ring

include he hr in
/-- The mean square of what the chosen rows miss. -/
theorem miss_apply (y : S_.Idx) : miss e r y = (((∑ n, Spec.sq (Spec.rest E (R n))) / 4194304 : ℝ) : EReal) := by
  have h := fetch_apply he hr
  unfold miss
  generalize fetch e r = f at h ⊢
  pointwise [zero]
  simp only [h, hr, ← EReal.coe_mul, ← EReal.coe_sub, ← Spec.coe_sum, Spec.zero_coe, Spec.count_coe, zero_add]
  rw [Ideal.div_coe (by norm_num), ← EReal.coe_mul, mul_one_div]
  rfl

include he hr in
/-- The loss after the stage. -/
theorem loss_apply (p : FVec Ideal S_ .f32) (P : ℝ) (hp : ∀ y, p y = ((P : ℝ) : EReal)) (y : S_.Idx) :
    loss e r p y = ((P + (∑ n, Spec.sq (Spec.rest E (R n))) * (5 / 16777216) : ℝ) : EReal) := by
  have h := miss_apply he hr y
  unfold loss
  generalize miss e r = f at h ⊢
  pointwise
  rw [h, hp, Spec.quarter_coe, ← EReal.coe_add, ← EReal.coe_mul, ← EReal.coe_add]
  congr 1
  ring

end Cert.ReferenceIdeal.Stage
-- ==== Proof.RefValue.lean ====
/-
  The reference's three results over real values: the chosen entries, the sum of the chosen rows, and the loss.
-/
module

public import proofs.«01_k».proof.Proof.RefLayer

@[expose] public section

set_option maxRecDepth 65536

noncomputable section

namespace Cert.ReferenceIdeal.Stage

open Idealize.ShloMosaic Idealize.SL.Sem Cert.ReferenceIdeal Facts₀ Facts

theorem book0_apply (C : FVec Ideal S4x1024x256 .f32) (k : Fin 1024) (d : Fin 256) : book0 C (ix2 k d) = C (ix3 0 k d) := by pointwise [book0]
theorem book1_apply (C : FVec Ideal S4x1024x256 .f32) (k : Fin 1024) (d : Fin 256) : book1 C (ix2 k d) = C (ix3 1 k d) := by pointwise [book1]
theorem book2_apply (C : FVec Ideal S4x1024x256 .f32) (k : Fin 1024) (d : Fin 256) : book2 C (ix2 k d) = C (ix3 2 k d) := by pointwise [book2]
theorem book3_apply (C : FVec Ideal S4x1024x256 .f32) (k : Fin 1024) (d : Fin 256) : book3 C (ix2 k d) = C (ix3 3 k d) := by pointwise [book3]

/-- Four columns side by side. -/
theorem beside_apply (i₀ i₁ i₂ i₃ : IVec S16384 32) (n : Fin 16384) (l : Fin 4) :
    beside i₀ i₁ i₂ i₃ (ix2 n l) = ![i₀ (ix1 n), i₁ (ix1 n), i₂ (ix1 n), i₃ (ix1 n)] l := by
  fin_cases l <;> pointwise [beside] <;> rfl

/-- Four lists of rows added up. -/
theorem total_apply (q₀ q₁ q₂ q₃ : FVec Ideal S16384x256 .f32) (n : Fin 16384) (d : Fin 256) :
    total q₀ q₁ q₂ q₃ (ix2 n d) = ((q₀ (ix2 n d) + q₁ (ix2 n d) + q₂ (ix2 n d) + q₃ (ix2 n d) : EReal)) := by
  pointwise [total, zero]
  rw [Fin.sum_univ_four]
  rfl

section Whole

variable {C : FVec Ideal S4x1024x256 .f32} {B : Fin 4 → Spec.Book} (hC : ∀ l k d, C (ix3 l k d) = ((B l k d : ℝ) : EReal))
  {X : FVec Ideal S16384x256 .f32} {R : Fin 16384 → Spec.Row} (hX : ∀ n d, X (ix2 n d) = ((R n d : ℝ) : EReal))

include hC

theorem book0_real (k : Fin 1024) (d : Fin 256) : book0 C (ix2 k d) = ((B 0 k d : ℝ) : EReal) := (book0_apply C k d).trans (hC 0 k d)
theorem book1_real (k : Fin 1024) (d : Fin 256) : book1 C (ix2 k d) = ((B 1 k d : ℝ) : EReal) := (book1_apply C k d).trans (hC 1 k d)
theorem book2_real (k : Fin 1024) (d : Fin 256) : book2 C (ix2 k d) = ((B 2 k d : ℝ) : EReal) := (book2_apply C k d).trans (hC 2 k d)
theorem book3_real (k : Fin 1024) (d : Fin 256) : book3 C (ix2 k d) = ((B 3 k d : ℝ) : EReal) := (book3_apply C k d).trans (hC 3 k d)

include hX

theorem left1_real (n : Fin 16384) (d : Fin 256) : left1 C X (ix2 n d) = ((Spec.left1 B (R n) d : ℝ) : EReal) :=
  rest_apply (book0_real hC) hX n d
theorem left2_real (n : Fin 16384) (d : Fin 256) : left2 C X (ix2 n d) = ((Spec.left2 B (R n) d : ℝ) : EReal) :=
  rest_apply (book1_real hC) (left1_real hC hX) n d
theorem left3_real (n : Fin 16384) (d : Fin 256) : left3 C X (ix2 n d) = ((Spec.left3 B (R n) d : ℝ) : EReal) :=
  rest_apply (book2_real hC) (left2_real hC hX) n d

/-- The chosen entries. -/
theorem ids_apply (n : Fin 16384) (l : Fin 4) : ids C X (ix2 n l) = BitVec.ofNat 32 (Spec.ids B (R n) l).val := by
  unfold ids
  rw [beside_apply, pick_apply (book0_real hC) hX, pick_apply (book1_real hC) (left1_real hC hX),
    pick_apply (book2_real hC) (left2_real hC hX), pick_apply (book3_real hC) (left3_real hC hX)]
  fin_cases l <;> rfl

/-- The sum of the chosen rows is what the four stages take away. -/
theorem rows_apply (n : Fin 16384) (d : Fin 256) : rows C X (ix2 n d) = ((R n d - Spec.left4 B (R n) d : ℝ) : EReal) := by
  unfold rows
  rw [total_apply, fetch_apply (book0_real hC) hX, fetch_apply (book1_real hC) (left1_real hC hX),
    fetch_apply (book2_real hC) (left2_real hC hX), fetch_apply (book3_real hC) (left3_real hC hX),
    ← EReal.coe_add, ← EReal.coe_add, ← EReal.coe_add]
  congr 1
  simp only [Spec.left4, Spec.left3, Spec.left2, Spec.left1, Spec.rest]
  ring

/-- The loss. -/
theorem cost_apply (y : S_.Idx) : cost C X y = (((∑ n, Spec.spent B (R n)) * (5 / 16777216) : ℝ) : EReal) := by
  have h0 : ∀ y : S_.Idx, zero (F := Ideal) y = ((0 : ℝ) : EReal) := fun y => by
    refine (constant_at _ y).trans ?_
    rw [Spec.zero_coe, EReal.coe_zero]
  unfold cost
  rw [loss_apply (book3_real hC) (left3_real hC hX) _ _
    (loss_apply (book2_real hC) (left2_real hC hX) _ _
      (loss_apply (book1_real hC) (left1_real hC hX) _ _ (loss_apply (book0_real hC) hX _ _ h0)))]
  congr 1
  simp only [Spec.spent, Finset.sum_add_distrib, Spec.left4, Spec.left3, Spec.left2, Spec.left1]
  ring

/-! The three results as whole arrays. -/

theorem ids_eq : ids C X = fun y : S16384x4.Idx => BitVec.ofNat 32 (Spec.ids B (R (y 0)) (y 1)).val := by
  funext y
  revert y
  intro (y : S16384x4.Idx)
  idx_vars y
  exact ids_apply hC hX _ _

theorem rows_eq : rows C X = fun y : S16384x256.Idx => ((R (y 0) (y 1) - Spec.left4 B (R (y 0)) (y 1) : ℝ) : EReal) := by
  funext y
  revert y
  intro (y : S16384x256.Idx)
  idx_vars y
  exact rows_apply hC hX _ _

theorem cost_eq : cost C X = fun _ : S_.Idx => (((∑ n, Spec.spent B (R n)) * (5 / 16777216) : ℝ) : EReal) :=
  funext fun y => cost_apply hC hX y

end Whole

end Cert.ReferenceIdeal.Stage
-- ==== Proof.Block.lean ====
/-
  One stage of the kernel's body, as vectors.

  The body works on 512 rows at a time.  A stage takes the rows still to be explained (`r`) and one codebook: the codebook
  with rows of unit length (`cb`, by which the nearest entry is found) and its plain rows in two bf16 parts (`hi`, `lo`).
  The definitions are at any float instance; `Proof.BlockValue` reads them at the extended reals.
-/
module

public import proofs.«01_k».proof.Proof.Gen.KernelIdeal.Skeleton
public import Idealize.ShloMosaic.Lib.Pipeline.Value

@[expose] public section

set_option maxRecDepth 16384

noncomputable section

open Idealize.ShloMosaic Idealize.ShloMosaic.TcCoe Idealize.SL.Sem

namespace Cert.KernelIdeal.Block

open Cert.KernelIdeal Cert.KernelIdeal.Gen

variable {F : FTy → Type} [FloatOps F]

/-- The squared distances of every codebook entry (rows of the result) from every row of the block (columns). -/
def dist (cb : Vec F S1x1024x256 .f32) (r : FVec F S512x256 .f32) : FVec F S1024x512 .f32 :=
  let e : FVec F S1024x256 .f32 := shapeCast S1024x256 cb shapeCasts_S1x1024x256_S1024x256
  subf
    (addf
      (broadcastTo S1024x512
        (transpose S1x512 [1, 0]
          (shapeCast S512x1 (multiReduction .add [1] S512 (mulf r r) 0x00000000#32 reduces_S512x256_S512 (.inl rfl) rfl)
            shapeCasts_S512_S512x1) transposes_S512x1_p1_0_S1x512) broadcasts_S1x512_S1024x512)
      (broadcastTo S1024x512
        (shapeCast S1024x1 (multiReduction .add [1] S1024 (mulf e e) 0x00000000#32 reduces_S1024x256_S1024 (.inl rfl) rfl)
          shapeCasts_S1024_S1024x1) broadcasts_S1024x1_S1024x512))
    (mulf (broadcast S1024x512 (Scalar.ofBits .f32 0x40000000#32))
      (matmul dot_S1024x256_S512x256_S1024x512_1_1_0_0_n_n none e r (constant S1024x512 .f32 0x00000000#32)))

/-- The distances in eight groups of 128 entries. -/
def grouped (d : FVec F S1024x512 .f32) : FVec F S8x128x512 .f32 := shapeCast S8x128x512 d shapeCasts_S1024x512_S8x128x512

/-- The least distance of each group. -/
def groupMin (d : FVec F S1024x512 .f32) : FVec F S8x512 .f32 :=
  multiReduction .minimumf [1] S8x512 (grouped d) 0x7F800000#32 reduces_S8x128x512_S8x512 (.inl rfl) rfl

/-- The first place of each group that holds the group's least distance. -/
def groupArg (d : FVec F S1024x512 .f32) : FVec F S8x512 .f32 :=
  multiReduction .minimumf [1] S8x512
    (select (cmpf .oeq (grouped d) (broadcastTo S8x128x512 (shapeCast S8x1x512 (groupMin d) shapeCasts_S8x512_S8x1x512) broadcasts_S8x1x512_S8x128x512))
      (sitofp .f32 (iota .tc S8x128x512 32 [1] iota_S8x128x512_d1_w32))
      (broadcast S8x128x512 (Scalar.ofBits .f32 0x43000000#32)))
    0x7F800000#32 reduces_S8x128x512_S8x512 (.inl rfl) rfl

/-- The number of each group, as a float. -/
def groupNo : FVec F S8x512 .f32 := sitofp .f32 (iota .tc S8x512 32 [0] iota_S8x512_d0_w32)

/-- One value per column, repeated down the eight groups. -/
def down8 (v : FVec F S512 .f32) : FVec F S8x512 .f32 :=
  broadcastTo S8x512 (shapeCast S1x512 v shapeCasts_S512_S1x512) broadcasts_S1x512_S8x512

/-- The least of the roots of the groups' least distances. -/
def leastRoot (d : FVec F S1024x512 .f32) : FVec F S512 .f32 :=
  multiReduction .minimumf [0] S512 (sqrt (groupMin d)) 0x7F800000#32 reduces_S8x512_S512 (.inl rfl) rfl

/-- The first group whose least distance (its root) is the least of all. -/
def bestGroup (d : FVec F S1024x512 .f32) : FVec F S512 .f32 :=
  multiReduction .minimumf [0] S512
    (select
      (cmpf .oeq (sqrt (groupMin d)) (down8 (leastRoot d)))
      groupNo (broadcast S8x512 (Scalar.ofBits .f32 0x41000000#32)))
    0x7F800000#32 reduces_S8x512_S512 (.inl rfl) rfl

/-- The chosen entry of each row, as a float. -/
def choose (d : FVec F S1024x512 .f32) : FVec F S512 .f32 :=
  multiReduction .minimumf [0] S512
    (select (cmpf .oeq groupNo (down8 (bestGroup d)))
      (addf (mulf groupNo (broadcast S8x512 (Scalar.ofBits .f32 0x43000000#32))) (groupArg d))
      (broadcast S8x512 (Scalar.ofBits .f32 0x44800000#32)))
    0x7F800000#32 reduces_S8x512_S512 (.inl rfl) rfl

/-- The chosen entries as the words that are stored. -/
def word (ix : FVec F S512 .f32) : IVec S1x512 32 := shapeCast S1x512 (fptosi 32 ix) shapeCasts_S512_S1x512

/-- One column per row, with a one at the chosen entry. -/
def oneHot (ix : FVec F S512 .f32) : FVec F S1024x512 .bf16 :=
  truncf .bf16 (sitofp .f32 (extui 32
    (cmpf .oeq (sitofp .f32 (iota .tc S1024x512 32 [0] iota_S1024x512_d0_w32))
      (broadcastTo S1024x512 (shapeCast S1x512 ix shapeCasts_S512_S1x512) broadcasts_S1x512_S1024x512)) natLt_1_32)) bitsLt_bf16_f32

/-- The chosen rows of the codebook, from its two parts. -/
def fetch (hi lo : Vec F S1x1024x256 .bf16) (ix : FVec F S512 .f32) : FVec F S512x256 .f32 :=
  addf
    (matmul dot_S1024x512_S1024x256_S512x256_0_0_1_1_n_n none (oneHot ix)
      (shapeCast S1024x256 hi shapeCasts_S1x1024x256_S1024x256) (constant S512x256 .f32 0x00000000#32))
    (matmul dot_S1024x512_S1024x256_S512x256_0_0_1_1_n_n none (oneHot ix)
      (shapeCast S1024x256 lo shapeCasts_S1x1024x256_S1024x256) (constant S512x256 .f32 0x00000000#32))

/-- The stage's chosen entries. -/
def pick (cb : Vec F S1x1024x256 .f32) (r : FVec F S512x256 .f32) : FVec F S512 .f32 := choose (dist cb r)

/-- The rows left after the stage. -/
def rest (cb : Vec F S1x1024x256 .f32) (hi lo : Vec F S1x1024x256 .bf16) (r : FVec F S512x256 .f32) : FVec F S512x256 .f32 :=
  subf r (addf r (subf (fetch hi lo (pick cb r)) r))

/-- The sum of the squares of the rows. -/
def energy (r : FVec F S512x256 .f32) : F .f32 :=
  extractAt ![0, 0, 0]
    (shapeCast S1x1x1
      (multiReduction .add [1, 2] S1 (shapeCast S1x512x256 (mulf r r) shapeCasts_S512x256_S1x512x256) 0x00000000#32 reduces_S1x512x256_S1 (.inl rfl) rfl)
      shapeCasts_S1_S1x1x1) inpos_S1x1x1_p0_0_0

/-! ## The stages in turn -/

/-- Codebook `l` of four. -/
def slot {e : EltTy} (x : Vec F S4x1024x256 e) (l : Fin 4) : Vec F S1x1024x256 e :=
  match l with
  | 0 => View.ld x (Rect.unit (s := S4x1024x256) ![0, 0, 0] S1x1024x256.size inb_S4x1024x256_S1x1024x256_0_0_0)
  | 1 => View.ld x (Rect.unit (s := S4x1024x256) ![1, 0, 0] S1x1024x256.size inb_S4x1024x256_S1x1024x256_1_0_0)
  | 2 => View.ld x (Rect.unit (s := S4x1024x256) ![2, 0, 0] S1x1024x256.size inb_S4x1024x256_S1x1024x256_2_0_0)
  | 3 => View.ld x (Rect.unit (s := S4x1024x256) ![3, 0, 0] S1x1024x256.size inb_S4x1024x256_S1x1024x256_3_0_0)

/-- The first or the second 512 rows of a block. -/
def half (x : Vec F S1024x256 .f32) (h : Fin 2) : FVec F S512x256 .f32 :=
  match h with
  | 0 => View.ld x (Rect.unit (s := S1024x256) ![0, 0] S512x256.size inb_S1024x256_S512x256_0_0)
  | 1 => View.ld x (Rect.unit (s := S1024x256) ![512, 0] S512x256.size inb_S1024x256_S512x256_512_0)

variable (cb : Vec F S4x1024x256 .f32) (hi lo : Vec F S4x1024x256 .bf16)

/-- The rows after the first `1`, `2`, `3` and `4` stages. -/
def left1 (r : FVec F S512x256 .f32) : FVec F S512x256 .f32 := rest (slot cb 0) (slot hi 0) (slot lo 0) r
@[inherit_doc left1] def left2 (r : FVec F S512x256 .f32) : FVec F S512x256 .f32 := rest (slot cb 1) (slot hi 1) (slot lo 1) (left1 cb hi lo r)
@[inherit_doc left1] def left3 (r : FVec F S512x256 .f32) : FVec F S512x256 .f32 := rest (slot cb 2) (slot hi 2) (slot lo 2) (left2 cb hi lo r)
@[inherit_doc left1] def left4 (r : FVec F S512x256 .f32) : FVec F S512x256 .f32 := rest (slot cb 3) (slot hi 3) (slot lo 3) (left3 cb hi lo r)

/-- The chosen entries of the four stages. -/
def pick1 (r : FVec F S512x256 .f32) : FVec F S512 .f32 := pick (slot cb 0) r
@[inherit_doc pick1] def pick2 (r : FVec F S512x256 .f32) : FVec F S512 .f32 := pick (slot cb 1) (left1 cb hi lo r)
@[inherit_doc pick1] def pick3 (r : FVec F S512x256 .f32) : FVec F S512 .f32 := pick (slot cb 2) (left2 cb hi lo r)
@[inherit_doc pick1] def pick4 (r : FVec F S512x256 .f32) : FVec F S512 .f32 := pick (slot cb 3) (left3 cb hi lo r)

/-- The four stages' energies, added in turn from zero. -/
def spent (r : FVec F S512x256 .f32) : F .f32 :=
  Scalar.addf (Scalar.addf (Scalar.addf (Scalar.addf (Scalar.ofBits .f32 0x00000000#32)
    (energy (left1 cb hi lo r))) (energy (left2 cb hi lo r))) (energy (left3 cb hi lo r))) (energy (left4 cb hi lo r))

end Cert.KernelIdeal.Block
-- ==== Proof.BlockValue.lean ====
/-
  One stage of the kernel's body, read over the reals.

  Where the rows and the codebook hold real numbers, a stage chooses the first nearest entry and leaves the row less that
  entry, as `Proof.Spec` says.
-/
module

public import proofs.«01_k».proof.Proof.Block
public import proofs.«01_k».proof.Proof.Spec

@[expose] public section

set_option maxRecDepth 16384

noncomputable section

namespace Cert.KernelIdeal.Block

open Idealize.ShloMosaic Idealize.ShloMosaic.TcCoe Idealize.SL.Sem Cert.KernelIdeal Cert.KernelIdeal.Gen

/-! ## Least values -/

/-- A fold of `min` from `⊤` is any value of the function that is below all of them. -/
theorem fold_min_eq {n : ℕ} (f : Fin n → EReal) (k : Fin n) (h : ∀ j, f k ≤ f j) : Finset.fold min ⊤ f Finset.univ = f k :=
  le_antisymm (Finset.fold_min_le _ |>.2 (Or.inr ⟨k, Finset.mem_univ _, le_rfl⟩))
    (Finset.le_fold_min _ |>.2 ⟨le_top, fun j _ => h j⟩)

/-- A choice between two real numbers by a comparison of extended reals. -/
theorem ite_real {x y a b : EReal} {p : Prop} [Decidable (x = y)] [Decidable p] {a' b' : ℝ} (h : x = y ↔ p) (ha : a = a') (hb : b = b') :
    (if x = y then a else b) = (((if p then a' else b' : ℝ)) : EReal) := by
  by_cases hp : p
  · rw [if_pos (h.2 hp), if_pos hp, ha]
  · rw [if_neg (mt h.1 hp), if_neg hp, hb]

section Choose

variable (d : FVec Ideal S1024x512 .f32) (n : Fin 512) (D : Fin 1024 → ℝ)

/-- Entry `i` of group `g`. -/
def entry (g : Fin 8) (i : Fin 128) : Fin 1024 := ⟨g.val * 128 + i.val, by omega⟩

/-- The first least place of group `g`. -/
def low (g : Fin 8) : Fin 128 := Spec.first fun i => D (entry g i)

/-- The first group that holds the least of all. -/
def lead : Fin 8 := Spec.first fun g => D (entry g (low D g))

/-- The first least place of the first group that holds the least of all is the first least place. -/
theorem entry_lead : entry (lead D) (low D (lead D)) = Spec.first D := by
  refine Spec.IsFirst.unique ⟨fun j => ?_, fun j hj => ?_⟩ (Spec.first_spec D)
  · have hj : j = entry ⟨j.val / 128, by omega⟩ ⟨j.val % 128, by omega⟩ := Fin.ext (by simp only [entry]; omega)
    refine le_trans (Spec.first_le (fun g => D (entry g (low D g))) ⟨j.val / 128, by omega⟩) ?_
    refine le_trans (Spec.first_le (fun i => D (entry _ i)) ⟨j.val % 128, by omega⟩) (le_of_eq ?_)
    exact congrArg D hj.symm
  · have hj' : j = entry ⟨j.val / 128, by omega⟩ ⟨j.val % 128, by omega⟩ := Fin.ext (by simp only [entry]; omega)
    have hlt : j.val < (lead D).val * 128 + (low D (lead D)).val := hj
    by_cases hg : j.val / 128 < (lead D).val
    · refine lt_of_lt_of_le (Spec.first_lt (fun g => D (entry g (low D g))) ⟨j.val / 128, by omega⟩ hg) ?_
      refine le_trans (Spec.first_le (fun i => D (entry _ i)) ⟨j.val % 128, by omega⟩) (le_of_eq ?_)
      exact congrArg D hj'.symm
    · have he : (⟨j.val / 128, by omega⟩ : Fin 8) = lead D := Fin.ext (by simp only; omega)
      rw [he] at hj'
      refine lt_of_lt_of_eq (Spec.first_lt (fun i => D (entry (lead D) i)) ⟨j.val % 128, by omega⟩ ?_) (congrArg D hj'.symm)
      show j.val % 128 < (low D (lead D)).val
      omega

variable (hd : ∀ k, d (ix2 k n) = ((D k : ℝ) : EReal))

include hd in
theorem groupMin_apply (g : Fin 8) : groupMin d (ix2 g n) = ((D (entry g (low D g)) : ℝ) : EReal) := by
  pointwise [groupMin, grouped]
  rw [Spec.top_coe, fold_min_eq _ (low D g)]
  · exact hd (entry g (low D g))
  · intro j
    exact (hd (entry g (low D g))).trans_le
      ((EReal.coe_le_coe_iff.2 (Spec.first_le (fun i => D (entry g i)) j)).trans_eq (hd (entry g j)).symm)

theorem number (k : ℕ) (h : k < 1024) : (((BitVec.ofNat 32 k).toInt : ℝ) : EReal) = ((k : ℝ) : EReal) := by
  have : (BitVec.ofNat 32 k).toInt = (k : ℤ) := by
    rw [BitVec.toInt_eq_toNat_of_lt] <;> simp only [BitVec.toNat_ofNat] <;> omega
  rw [this, Int.cast_natCast]

theorem sitofp_number (k : ℕ) (h : k < 1024) : FloatOps.sitofp (F := Ideal) .f32 (BitVec.ofNat 32 k) = ((k : ℝ) : EReal) := number k h

include hd in
theorem groupArg_apply (g : Fin 8) : groupArg d (ix2 g n) = (((low D g).val : ℝ) : EReal) := by
  pointwise [groupArg, grouped]
  have hv : ∀ x : Fin 128, (if d (ix2 ⟨g.val * 128 + x.val, by omega⟩ n) = groupMin d (ix2 g n) then FloatOps.sitofp (F := Ideal) .f32 (BitVec.ofNat 32 x.val)
      else Ideal.ofBits .f32 0x43000000#32) = (((if D (entry g x) = D (entry g (low D g)) then (x.val : ℝ) else 128 : ℝ)) : EReal) := by
    intro x
    refine ite_real ?_ (sitofp_number _ (by omega)) Spec.lanes_coe
    rw [groupMin_apply d n D hd g]
    exact (iff_of_eq (congrArg (· = _) (hd (entry g x)))).trans EReal.coe_eq_coe_iff
  rw [Spec.top_coe]
  refine (congrArg (fun f => Finset.fold min ⊤ f Finset.univ) (funext hv)).trans ?_
  rw [fold_min_eq _ (low D g)]
  · rw [if_pos rfl]
  · intro j
    rw [if_pos rfl, EReal.coe_le_coe_iff]
    split
    · rename_i h
      refine Nat.cast_le.2 (not_lt.1 fun hlt => ?_)
      exact absurd h (Spec.first_lt (fun i => D (entry g i)) j hlt).ne'
    · exact_mod_cast (low D g).isLt.le

variable (hD : ∀ k, 0 ≤ D k)

theorem sqrt_real (x : ℝ) (h : 0 ≤ x) : Ideal.sqrt ((x : ℝ) : EReal) = ((√x : ℝ) : EReal) := by
  rw [Ideal.sqrt_coe, if_neg (not_lt.2 h)]

/-- The least down the eight groups. -/
theorem least_apply (v : FVec Ideal S8x512 .f32) (n : Fin 512) :
    multiReduction .minimumf [0] S512 v 0x7F800000#32 reduces_S8x512_S512 (.inl rfl) rfl (ix1 n) = Finset.fold min ⊤ (fun x : Fin 8 => v (ix2 x n)) Finset.univ := by
  pointwise
  rw [Spec.top_coe]

include hd hD in
theorem leastRoot_apply : leastRoot d (ix1 n) = ((√(D (entry (lead D) (low D (lead D)))) : ℝ) : EReal) := by
  have hv : ∀ x : Fin 8, sqrt (groupMin d) (ix2 x n) = ((√(D (entry x (low D x))) : ℝ) : EReal) := fun x => by
    refine Eq.trans ?_ (sqrt_real _ (hD _))
    pointwise
    rw [groupMin_apply d n D hd x]
  unfold leastRoot
  rw [least_apply]
  refine (congrArg (fun f => Finset.fold min ⊤ f Finset.univ) (funext hv)).trans ?_
  exact fold_min_eq (fun x : Fin 8 => ((√(D (entry x (low D x))) : ℝ) : EReal)) (lead D)
    fun j => EReal.coe_le_coe_iff.2 (Real.sqrt_le_sqrt (Spec.first_le (fun g => D (entry g (low D g))) j))

include hd hD in
theorem bestGroup_apply : bestGroup d (ix1 n) = (((lead D).val : ℝ) : EReal) := by
  pointwise [bestGroup, down8, groupNo]
  have hv : ∀ x : Fin 8, (if Ideal.sqrt (groupMin d (ix2 x n)) = leastRoot d (ix1 n) then FloatOps.sitofp (F := Ideal) .f32 (BitVec.ofNat 32 x.val)
      else Ideal.ofBits .f32 0x41000000#32)
      = (((if √(D (entry x (low D x))) = √(D (entry (lead D) (low D (lead D)))) then (x.val : ℝ) else 8 : ℝ)) : EReal) := by
    intro x
    refine ite_real ?_ (sitofp_number _ (by omega)) Spec.eight_coe
    rw [groupMin_apply d n D hd x, sqrt_real _ (hD _), leastRoot_apply d n D hd hD, EReal.coe_eq_coe_iff]
  rw [Spec.top_coe]
  refine (congrArg (fun f => Finset.fold min ⊤ f Finset.univ) (funext hv)).trans ?_
  rw [fold_min_eq _ (lead D)]
  · rw [if_pos rfl]
  · intro j
    rw [if_pos rfl, EReal.coe_le_coe_iff]
    split
    · rename_i h
      refine Nat.cast_le.2 (not_lt.1 fun hlt => ?_)
      exact absurd ((Real.sqrt_inj (hD _) (hD _)).1 h) (Spec.first_lt (fun g => D (entry g (low D g))) j hlt).ne'
    · exact_mod_cast (lead D).isLt.le

include hd hD in
/-- The chosen entry is the first nearest one. -/
theorem choose_apply : choose d (ix1 n) = (((Spec.first D).val : ℝ) : EReal) := by
  pointwise [choose, down8, groupNo]
  have hv : ∀ x : Fin 8, (if FloatOps.sitofp (F := Ideal) .f32 (BitVec.ofNat 32 x.val) = bestGroup d (ix1 n) then
        FloatOps.sitofp (F := Ideal) .f32 (BitVec.ofNat 32 x.val) * Ideal.ofBits .f32 0x43000000#32 + groupArg d (ix2 x n)
      else Ideal.ofBits .f32 0x44800000#32)
      = (((if x = lead D then ((entry x (low D x)).val : ℝ) else 1024 : ℝ)) : EReal) := by
    intro x
    refine ite_real ?_ ?_ Spec.entries_coe
    · rw [bestGroup_apply d n D hd hD, sitofp_number _ (by omega), EReal.coe_eq_coe_iff, Nat.cast_inj, Fin.val_inj]
    · rw [groupArg_apply d n D hd x, sitofp_number _ (by omega), Spec.lanes_coe]
      refine (congrArg (· + _) (EReal.coe_mul _ _).symm).trans ?_
      rw [← EReal.coe_add, entry]
      push_cast
      rfl
  rw [Spec.top_coe]
  refine (congrArg (fun f => Finset.fold min ⊤ f Finset.univ) (funext hv)).trans ?_
  rw [fold_min_eq _ (lead D)]
  · rw [if_pos rfl, entry_lead]
  · intro j
    rw [if_pos rfl, EReal.coe_le_coe_iff]
    split
    · rename_i h
      rw [h]
    · exact_mod_cast (entry (lead D) (low D (lead D))).isLt.le

end Choose

/-- The word stored for a natural number below 1024. -/
theorem fptosi_number (k : ℕ) (h : k < 1024) : Ideal.fptosi 32 ((k : ℝ) : EReal) = BitVec.ofNat 32 k := by
  rw [Ideal.fptosi, Ideal.toIntClamped_coe]
  rw [if_pos (Nat.cast_nonneg k), Int.floor_natCast]
  have e : max (-((2 ^ (32 - 1) : ℕ) : ℤ)) (min (((2 ^ (32 - 1) : ℕ) : ℤ) - 1) (k : ℤ)) = (k : ℤ) := by
    norm_num
    omega
  rw [e, BitVec.ofInt_natCast]

theorem word_apply (ix : FVec Ideal S512 .f32) (n : Fin 512) (k : ℕ) (h : k < 1024) (hk : ix (ix1 n) = ((k : ℝ) : EReal)) :
    word ix (ix2 (0 : Fin 1) n) = BitVec.ofNat 32 k := by
  pointwise [word]
  rw [hk]
  exact fptosi_number k h

/-! ## A stage -/

section Stage

variable (cb : Vec Ideal S1x1024x256 .f32) (hi lo : Vec Ideal S1x1024x256 .bf16) (r : FVec Ideal S512x256 .f32)
  (E : Spec.Book) (R : Fin 512 → Spec.Row)
  (hcb : ∀ k d, cb (ix3 (0 : Fin 1) k d) = ((Spec.unit E k d : ℝ) : EReal))
  (hhi : ∀ k d, hi (ix3 (0 : Fin 1) k d) = ((E k d : ℝ) : EReal))
  (hlo : ∀ k d, lo (ix3 (0 : Fin 1) k d) = 0)
  (hr : ∀ n d, r (ix2 n d) = ((R n d : ℝ) : EReal))

include hcb hr in
theorem dist_apply (k : Fin 1024) (n : Fin 512) : dist cb r (ix2 k n) = ((Spec.gap (Spec.unit E) (R n) k : ℝ) : EReal) := by
  pointwise [dist]
  simp only [hcb, hr, Spec.two_coe, ← EReal.coe_mul, ← Spec.coe_sum, ← EReal.coe_add, ← EReal.coe_sub]
  rw [Spec.gap]
  simp only [mul_comm]

include hcb hr in
theorem pick_apply (n : Fin 512) : pick cb r (ix1 n) = (((Spec.pick E (R n)).val : ℝ) : EReal) :=
  choose_apply (dist cb r) n _ (fun k => dist_apply cb r E R hcb hr k n) fun k => Spec.gap_nonneg _ _ k

include hcb hhi hlo hr in
theorem fetch_apply (n : Fin 512) (d : Fin 256) : fetch hi lo (pick cb r) (ix2 n d) = ((E (Spec.pick E (R n)) d : ℝ) : EReal) := by
  pointwise [fetch, oneHot]
  have hv : ∀ x : Fin 1024, FloatOps.sitofp (F := Ideal) .f32 (BitVec.setWidth 32 (BitVec.ofBool (decide
      (FloatOps.sitofp (F := Ideal) .f32 (BitVec.ofNat 32 x.val) = pick cb r (ix1 n))))) = if x = Spec.pick E (R n) then (1 : EReal) else 0 := by
    intro x
    have he : FloatOps.sitofp (F := Ideal) .f32 (BitVec.ofNat 32 x.val) = pick cb r (ix1 n) ↔ x = Spec.pick E (R n) := by
      rw [pick_apply cb r E R hcb hr n, sitofp_number _ x.isLt, EReal.coe_eq_coe_iff, Nat.cast_inj, Fin.val_inj]
    by_cases h : x = Spec.pick E (R n)
    · rw [if_pos h, decide_eq_true (he.2 h)]
      exact (sitofp_number 1 (by omega)).trans (by simp)
    · rw [if_neg h, decide_eq_false (mt he.1 h)]
      exact (sitofp_number 0 (by omega)).trans (by simp)
  simp only [hv, hhi, hlo, mul_zero, Finset.sum_const_zero, add_zero, ite_mul, one_mul, zero_mul, Finset.sum_ite_eq', Finset.sum_ite_eq,
    Finset.mem_univ, if_true]

include hcb hhi hlo hr in
theorem rest_apply (n : Fin 512) (d : Fin 256) : rest cb hi lo r (ix2 n d) = ((Spec.rest E (R n) d : ℝ) : EReal) := by
  have h := fetch_apply cb hi lo r E R hcb hhi hlo hr n d
  pointwise [rest]
  rw [h, hr, ← EReal.coe_sub, ← EReal.coe_add, ← EReal.coe_sub, Spec.rest]
  congr 1
  ring

include hr in
theorem energy_apply : energy r = ((∑ n, Spec.sq (R n) : ℝ) : EReal) := by
  pointwise [energy]
  simp only [hr, ← EReal.coe_mul, ← Spec.coe_sum]
  rfl

end Stage

end Cert.KernelIdeal.Block
-- ==== Proof.Prep.lean ====
/-
  What the first call leaves: the codebooks with entries of unit length, and their plain entries in two parts.

  Over the reals the first part is the entry itself and the second is zero.
-/
module

public import proofs.«01_k».proof.Proof.Block
public import proofs.«01_k».proof.Proof.Spec
public import proofs.«01_k».proof.Proof.Gen.KernelIdeal.Frame

@[expose] public section

set_option maxRecDepth 16384

noncomputable section

namespace Cert.KernelIdeal.Block

open Idealize.ShloMosaic Idealize.ShloMosaic.TcCoe Idealize.SL.Sem Cert.KernelIdeal Cert.KernelIdeal.Gen

/-! ## One codebook -/

section One

variable (v : Vec Ideal S1x1024x256 .f32) (E : Spec.Book) (hv : ∀ k d, v (ix3 (0 : Fin 1) k d) = ((E k d : ℝ) : EReal))

include hv in
theorem unit_apply (k : Fin 1024) (d : Fin 256) : k0_pay2 v (ix3 (0 : Fin 1) k d) = ((Spec.unit E k d : ℝ) : EReal) := by
  have hs : 0 ≤ ∑ x, E k x * E k x := Finset.sum_nonneg fun x _ => mul_self_nonneg _
  have hm : max (√(∑ x, E k x * E k x)) Spec.floor ≠ 0 := (lt_of_lt_of_le Spec.floor_pos (le_max_right _ _)).ne'
  pointwise [k0_pay2, k0_pay1]
  simp only [hv, ← EReal.coe_mul, ← Spec.coe_sum, Spec.floor_coe]
  rw [Ideal.sqrt_coe, if_neg (not_lt.2 hs), ← EReal.coe_strictMono.monotone.map_max, Ideal.div_coe hm, ← EReal.coe_mul, Spec.unit, mul_one_div]

include hv in
theorem part_apply (k : Fin 1024) (d : Fin 256) : k0_pay4 v (ix3 (0 : Fin 1) k d) = ((E k d : ℝ) : EReal) := by
  pointwise [k0_pay4, k0_pay3, k0_pay1]
  exact hv k d

include hv in
theorem spare_apply (k : Fin 1024) (d : Fin 256) : k0_pay5 v (ix3 (0 : Fin 1) k d) = 0 := by
  pointwise [k0_pay5, k0_pay3, k0_pay1]
  rw [hv k d, ← EReal.coe_sub, sub_self, EReal.coe_zero]

end One

/-! ## The four codebooks -/

theorem emb_book (l : ℕ) (hl : l < 4) (h) (k : Fin 1024) (d : Fin 256) :
    (Rect.unit (s := S4x1024x256) ![l, 0, 0] S1x1024x256.size h).emb (ix3 (0 : Fin 1) k d) = ix3 (⟨l, hl⟩ : Fin 4) k d := by
  funext a
  apply Fin.ext
  fin_cases a <;> simp [Rect.emb, Rect.unit, ix3]

theorem slot_apply {e : EltTy} (x : Vec Ideal S4x1024x256 e) (l : Fin 4) (k : Fin 1024) (d : Fin 256) :
    slot x l (ix3 (0 : Fin 1) k d) = x (ix3 l k d) := by
  fin_cases l
  · exact congrArg x (emb_book 0 (by omega) _ k d)
  · exact congrArg x (emb_book 1 (by omega) _ k d)
  · exact congrArg x (emb_book 2 (by omega) _ k d)
  · exact congrArg x (emb_book 3 (by omega) _ k d)

section Four

variable (x : Vec Ideal S4x1024x256 .f32) (C : Fin 4 → Spec.Book) (hx : ∀ l k d, x (ix3 l k d) = ((C l k d : ℝ) : EReal))

include hx in
theorem units_apply (l : Fin 4) (k : Fin 1024) (d : Fin 256) : out0_1 x (ix3 l k d) = ((Spec.unit (C l) k d : ℝ) : EReal) := by
  refine View.canon_apply_of_pieces (Val := Elt Ideal) (fun y : S4x1024x256.Idx => ((Spec.unit (C (y 0)) (y 1) (y 2) : ℝ) : EReal)) _ ?_ _ (cover0_1 _ _ _ _ _)
  intro p hp
  simp only [List.mem_cons, List.not_mem_nil, or_false] at hp
  rcases hp with rfl | rfl | rfl | rfl
  all_goals
    intro y
    obtain ⟨k, d, rfl⟩ : ∃ (k : Fin 1024) (d : Fin 256), y = ix3 (0 : Fin 1) k d := by
      idx_vars y
      exact ⟨_, _, by congr 1; exact Subsingleton.elim _ _⟩
  · rw [emb_book 3 (by omega)]
    exact unit_apply _ (C 3) (fun k d => (slot_apply x 3 k d).trans (hx 3 k d)) k d
  · rw [emb_book 2 (by omega)]
    exact unit_apply _ (C 2) (fun k d => (slot_apply x 2 k d).trans (hx 2 k d)) k d
  · rw [emb_book 1 (by omega)]
    exact unit_apply _ (C 1) (fun k d => (slot_apply x 1 k d).trans (hx 1 k d)) k d
  · rw [emb_book 0 (by omega)]
    exact unit_apply _ (C 0) (fun k d => (slot_apply x 0 k d).trans (hx 0 k d)) k d

include hx in
theorem parts_apply (l : Fin 4) (k : Fin 1024) (d : Fin 256) : out0_2 x (ix3 l k d) = ((C l k d : ℝ) : EReal) := by
  refine View.canon_apply_of_pieces (Val := Elt Ideal) (fun y : S4x1024x256.Idx => ((C (y 0) (y 1) (y 2) : ℝ) : EReal)) _ ?_ _ (cover0_2 _ _ _ _ _)
  intro p hp
  simp only [List.mem_cons, List.not_mem_nil, or_false] at hp
  rcases hp with rfl | rfl | rfl | rfl
  all_goals
    intro y
    obtain ⟨k, d, rfl⟩ : ∃ (k : Fin 1024) (d : Fin 256), y = ix3 (0 : Fin 1) k d := by
      idx_vars y
      exact ⟨_, _, by congr 1; exact Subsingleton.elim _ _⟩
  · rw [emb_book 3 (by omega)]
    exact part_apply _ (C 3) (fun k d => (slot_apply x 3 k d).trans (hx 3 k d)) k d
  · rw [emb_book 2 (by omega)]
    exact part_apply _ (C 2) (fun k d => (slot_apply x 2 k d).trans (hx 2 k d)) k d
  · rw [emb_book 1 (by omega)]
    exact part_apply _ (C 1) (fun k d => (slot_apply x 1 k d).trans (hx 1 k d)) k d
  · rw [emb_book 0 (by omega)]
    exact part_apply _ (C 0) (fun k d => (slot_apply x 0 k d).trans (hx 0 k d)) k d

include hx in
theorem spares_apply (l : Fin 4) (k : Fin 1024) (d : Fin 256) : out0_3 x (ix3 l k d) = 0 := by
  refine View.canon_apply_of_pieces (Val := Elt Ideal) (fun _ : S4x1024x256.Idx => (0 : EReal)) _ ?_ _ (cover0_3 _ _ _ _ _)
  intro p hp
  simp only [List.mem_cons, List.not_mem_nil, or_false] at hp
  rcases hp with rfl | rfl | rfl | rfl
  all_goals
    intro y
    obtain ⟨k, d, rfl⟩ : ∃ (k : Fin 1024) (d : Fin 256), y = ix3 (0 : Fin 1) k d := by
      idx_vars y
      exact ⟨_, _, by congr 1; exact Subsingleton.elim _ _⟩
  · exact spare_apply _ (C 3) (fun k d => (slot_apply x 3 k d).trans (hx 3 k d)) k d
  · exact spare_apply _ (C 2) (fun k d => (slot_apply x 2 k d).trans (hx 2 k d)) k d
  · exact spare_apply _ (C 1) (fun k d => (slot_apply x 1 k d).trans (hx 1 k d)) k d
  · exact spare_apply _ (C 0) (fun k d => (slot_apply x 0 k d).trans (hx 0 k d)) k d

end Four

end Cert.KernelIdeal.Block
-- ==== Proof.Stages.lean ====
/-
  The body's printed values, named by stage.

  The printed body is cut into pieces that do not follow the four stages.  Each equation here takes the pieces that make one
  value of one stage - the words stored, the rows left, the running energy - back to the definitions of `Proof.Block`.
-/
module

public import proofs.«01_k».proof.Proof.Block

@[expose] public section

set_option maxRecDepth 65536

noncomputable section

open Idealize.ShloMosaic Idealize.ShloMosaic.TcCoe Idealize.SL.Sem

namespace Cert.KernelIdeal.Block

open Cert.KernelIdeal Cert.KernelIdeal.Gen

variable {F : FTy → Type} [FloatOps F]
variable (cb : Vec F S1x1024x256 .f32) (hi lo : Vec F S1x1024x256 .bf16) (r x : FVec F S512x256 .f32) (a b : F .f32)

/-! Stage 1, first half. -/

theorem word1a : k1_pay16 (k1_pay5 (F := F)) (k1_pay12 r cb) (k1_pay13 r cb) (k1_pay14 r cb) = word (pick cb r) := rfl
theorem rest1a : k1_pay17 (k1_pay3 (F := F)) (k1_pay5 (F := F)) r (k1_pay7 hi) (k1_pay8 lo) (k1_pay12 r cb) (k1_pay13 r cb) (k1_pay14 r cb) = rest cb hi lo r := rfl
theorem spent1a : k1_pay18 (k1_pay3 (F := F)) (k1_pay5 (F := F)) r (k1_pay7 hi) (k1_pay8 lo) (k1_pay12 r cb) (k1_pay13 r cb) (k1_pay14 r cb) = Scalar.addf (FloatOps.ofBits .f32 0x00000000#32) (energy (rest cb hi lo r)) := rfl

/-! Stage 1, second half. -/

theorem word1b : k1_pay22 (k1_pay4 (F := F)) (k1_pay5 (F := F)) (k1_pay19 r (k1_pay6 cb)) (k1_pay20 r (k1_pay9 cb)) (FloatOps.ofBits .f32 0x40000000#32) = word (pick cb r) := rfl
theorem rest1b : k1_pay23 (k1_pay3 (F := F)) (k1_pay4 (F := F)) (k1_pay5 (F := F)) r (k1_pay7 hi) (k1_pay8 lo) (k1_pay19 r (k1_pay6 cb)) (k1_pay20 r (k1_pay9 cb)) (FloatOps.ofBits .f32 0x40000000#32) = rest cb hi lo r := rfl
theorem spent1b : k1_pay25 (k1_pay24 (k1_pay3 (F := F)) (k1_pay4 (F := F)) (k1_pay5 (F := F)) r (k1_pay7 hi) (k1_pay8 lo) (k1_pay19 r (k1_pay6 cb)) (k1_pay20 r (k1_pay9 cb)) (FloatOps.ofBits .f32 0x40000000#32)) = Scalar.addf (FloatOps.ofBits .f32 0x00000000#32) (energy (rest cb hi lo r)) := rfl

/-! Stage 2, first half. -/

theorem word2a : k1_pay35 (k1_pay5 (F := F)) (k1_pay32 (k1_pay4 (F := F)) r cb) (k1_pay33 (k1_pay5 (F := F)) r cb) = word (pick cb r) := rfl
theorem rest2a : k1_pay36 (k1_pay3 (F := F)) (k1_pay5 (F := F)) r (k1_pay27 hi) (k1_pay28 lo) (k1_pay32 (k1_pay4 (F := F)) r cb) (k1_pay33 (k1_pay5 (F := F)) r cb) = rest cb hi lo r := rfl
theorem spent2a : k1_pay37 (k1_pay3 (F := F)) (k1_pay5 (F := F)) r a (k1_pay27 hi) (k1_pay28 lo) (k1_pay32 (k1_pay4 (F := F)) r cb) (k1_pay33 (k1_pay5 (F := F)) r cb) = Scalar.addf a (energy (rest cb hi lo r)) := rfl

/-! Stage 2, second half. -/

theorem word2b : k1_pay42 (k1_pay4 (F := F)) (k1_pay5 (F := F)) (k1_pay38 r (k1_pay26 cb) (k1_pay29 cb)) (k1_pay39 r (k1_pay26 cb) (k1_pay29 cb)) (k1_pay40 r (k1_pay26 cb) (k1_pay29 cb)) = word (pick cb r) := rfl
theorem rest2b : k1_pay43 (k1_pay3 (F := F)) (k1_pay4 (F := F)) (k1_pay5 (F := F)) r (k1_pay27 hi) (k1_pay28 lo) (k1_pay38 r (k1_pay26 cb) (k1_pay29 cb)) (k1_pay39 r (k1_pay26 cb) (k1_pay29 cb)) (k1_pay40 r (k1_pay26 cb) (k1_pay29 cb)) = rest cb hi lo r := rfl
theorem spent2b : k1_pay44 (k1_pay3 (F := F)) (k1_pay4 (F := F)) (k1_pay5 (F := F)) r a (k1_pay27 hi) (k1_pay28 lo) (k1_pay38 r (k1_pay26 cb) (k1_pay29 cb)) (k1_pay39 r (k1_pay26 cb) (k1_pay29 cb)) (k1_pay40 r (k1_pay26 cb) (k1_pay29 cb)) = Scalar.addf a (energy (rest cb hi lo r)) := rfl

/-! Stage 3, first half. -/

theorem word3a : k1_pay54 (k1_pay51 (k1_pay4 (F := F)) (k1_pay5 (F := F)) r cb) (k1_pay52 (k1_pay5 (F := F)) r cb) (FloatOps.ofBits .f32 0x44800000#32) = word (pick cb r) := rfl
theorem rest3a : k1_pay55 (k1_pay3 (F := F)) r (k1_pay46 hi) (k1_pay47 lo) (k1_pay51 (k1_pay4 (F := F)) (k1_pay5 (F := F)) r cb) (k1_pay52 (k1_pay5 (F := F)) r cb) (FloatOps.ofBits .f32 0x44800000#32) = rest cb hi lo r := rfl
theorem spent3a : k1_pay56 (k1_pay3 (F := F)) r a (k1_pay46 hi) (k1_pay47 lo) (k1_pay51 (k1_pay4 (F := F)) (k1_pay5 (F := F)) r cb) (k1_pay52 (k1_pay5 (F := F)) r cb) (FloatOps.ofBits .f32 0x44800000#32) = Scalar.addf a (energy (rest cb hi lo r)) := rfl

/-! Stage 3, second half. -/

theorem word3b : k1_pay63 (k1_pay5 (F := F)) (k1_pay59 (k1_pay4 (F := F)) r (k1_pay45 cb) (k1_pay48 cb)) (k1_pay60 r (k1_pay45 cb) (k1_pay48 cb)) (k1_pay61 r (k1_pay45 cb) (k1_pay48 cb)) = word (pick cb r) := rfl
theorem rest3b : k1_pay64 (k1_pay3 (F := F)) (k1_pay5 (F := F)) r (k1_pay46 hi) (k1_pay47 lo) (k1_pay59 (k1_pay4 (F := F)) r (k1_pay45 cb) (k1_pay48 cb)) (k1_pay60 r (k1_pay45 cb) (k1_pay48 cb)) (k1_pay61 r (k1_pay45 cb) (k1_pay48 cb)) = rest cb hi lo r := rfl
theorem spent3b : k1_pay65 (k1_pay3 (F := F)) (k1_pay5 (F := F)) r a (k1_pay46 hi) (k1_pay47 lo) (k1_pay59 (k1_pay4 (F := F)) r (k1_pay45 cb) (k1_pay48 cb)) (k1_pay60 r (k1_pay45 cb) (k1_pay48 cb)) (k1_pay61 r (k1_pay45 cb) (k1_pay48 cb)) = Scalar.addf a (energy (rest cb hi lo r)) := rfl

/-! Stage 4, first half. -/

theorem word4a : k1_pay72 (k1_pay71 (k1_pay4 (F := F)) (k1_pay5 (F := F)) r (k1_pay66 cb)) = word (pick cb r) := rfl
theorem rest4a : k1_pay73 (k1_pay3 (F := F)) r (k1_pay67 hi) (k1_pay68 lo) (k1_pay70 (k1_pay4 (F := F)) (k1_pay5 (F := F)) r (k1_pay66 cb)) = rest cb hi lo r := rfl
theorem spent4a : k1_pay74 (k1_pay3 (F := F)) r a (k1_pay67 hi) (k1_pay68 lo) (k1_pay70 (k1_pay4 (F := F)) (k1_pay5 (F := F)) r (k1_pay66 cb)) = Scalar.addf a (energy (rest cb hi lo r)) := rfl

/-! Stage 4, second half; the last rows, and the energies of the two halves together. -/

theorem word4b : k1_pay80 (k1_pay5 (F := F)) (k1_pay77 (k1_pay4 (F := F)) r (k1_pay66 cb) (k1_pay69 (k1_pay66 cb))) (k1_pay78 (k1_pay5 (F := F)) r (k1_pay66 cb) (k1_pay69 (k1_pay66 cb))) (FloatOps.ofBits .f32 0x43000000#32) = word (pick cb r) := rfl
theorem rest4b : k1_pay83 (k1_pay3 (F := F)) (k1_pay5 (F := F)) r (k1_pay67 hi) (k1_pay68 lo) (k1_pay77 (k1_pay4 (F := F)) r (k1_pay66 cb) (k1_pay69 (k1_pay66 cb))) (k1_pay78 (k1_pay5 (F := F)) r (k1_pay66 cb) (k1_pay69 (k1_pay66 cb))) (FloatOps.ofBits .f32 0x43000000#32) x = subf x (rest cb hi lo r) := rfl
theorem spent4b : k1_pay84 (k1_pay3 (F := F)) (k1_pay5 (F := F)) r a (k1_pay67 hi) (k1_pay68 lo) b (k1_pay77 (k1_pay4 (F := F)) r (k1_pay66 cb) (k1_pay69 (k1_pay66 cb))) (k1_pay78 (k1_pay5 (F := F)) r (k1_pay66 cb) (k1_pay69 (k1_pay66 cb))) (FloatOps.ofBits .f32 0x43000000#32) =
    Scalar.addf (Scalar.addf (FloatOps.ofBits .f32 0x00000000#32) b) (Scalar.addf a (energy (rest cb hi lo r))) := rfl
theorem last_a : k1_pay82 r x = subf x r := rfl

end Cert.KernelIdeal.Block
-- ==== Proof.Body.lean ====
/-
  What one grid point of the main call leaves in its three output blocks.

  The generated run finds the pieces the body writes; here each is read back as a value of `Proof.Block`: four rows of words
  for the two halves, the decoded rows, and the running energy.
-/
module

public import proofs.«01_k».proof.Proof.Stages
public import proofs.«01_k».proof.Proof.Gen.KernelIdeal.Frame
public import Idealize.ShloMosaic.Lib.Tactic

@[expose] public section

set_option maxRecDepth 65536

noncomputable section

open Idealize.ShloMosaic Idealize.ShloMosaic.TcCoe Idealize.SL.Sem

namespace Cert.KernelIdeal.Block

open Cert.KernelIdeal Cert.KernelIdeal.Gen

variable {F : FTy → Type} [FloatOps F]

section Values

variable (x0 : Vec F S1024x256 .f32) (x1 : Vec F S4x1024x256 .f32) (x2 x3 : Vec F S4x1024x256 .bf16)

/-- The words a point stores: row `l` holds the entries chosen at stage `l`, the first half's rows before the second's. -/
def words : Vec F S4x1024 .i32 :=
  View.canon
    [⟨Rect.unit (s := S4x1024) ![3, 512] S1x512.size inb_S4x1024_S1x512_3_512, word (pick4 x1 x2 x3 (half x0 1))⟩,
     ⟨Rect.unit (s := S4x1024) ![3, 0] S1x512.size inb_S4x1024_S1x512_3_0, word (pick4 x1 x2 x3 (half x0 0))⟩,
     ⟨Rect.unit (s := S4x1024) ![2, 512] S1x512.size inb_S4x1024_S1x512_2_512, word (pick3 x1 x2 x3 (half x0 1))⟩,
     ⟨Rect.unit (s := S4x1024) ![2, 0] S1x512.size inb_S4x1024_S1x512_2_0, word (pick3 x1 x2 x3 (half x0 0))⟩,
     ⟨Rect.unit (s := S4x1024) ![1, 512] S1x512.size inb_S4x1024_S1x512_1_512, word (pick2 x1 x2 x3 (half x0 1))⟩,
     ⟨Rect.unit (s := S4x1024) ![1, 0] S1x512.size inb_S4x1024_S1x512_1_0, word (pick2 x1 x2 x3 (half x0 0))⟩,
     ⟨Rect.unit (s := S4x1024) ![0, 512] S1x512.size inb_S4x1024_S1x512_0_512, word (pick1 x1 (half x0 1))⟩,
     ⟨Rect.unit (s := S4x1024) ![0, 0] S1x512.size inb_S4x1024_S1x512_0_0, word (pick1 x1 (half x0 0))⟩]

/-- The decoded rows: what was given less what is left. -/
def decoded : Vec F S1024x256 .f32 :=
  View.canon
    [⟨Rect.unit (s := S1024x256) ![512, 0] S512x256.size inb_S1024x256_S512x256_512_0, subf (half x0 1) (left4 x1 x2 x3 (half x0 1))⟩,
     ⟨Rect.unit (s := S1024x256) ![0, 0] S512x256.size inb_S1024x256_S512x256_0_0, subf (half x0 0) (left4 x1 x2 x3 (half x0 0))⟩]

/-- The energy a point adds. -/
def pointEnergy : F .f32 :=
  Scalar.addf (Scalar.addf (FloatOps.ofBits .f32 0x00000000#32) (spent x1 x2 x3 (half x0 0))) (spent x1 x2 x3 (half x0 1))

end Values

theorem hz : (![0, 0] : Fin 2 → Nat) = fun _ => 0 := funext fun a => by fin_cases a <;> rfl

/-- The energy block: what it held before and the point's own. -/
def energyBlock (xo : Vec F S1x1 .f32) (e : F .f32) : Vec F S1x1 .f32 := addf xo (broadcast S1x1 e)

/-- The energy block before the first point: zero. -/
def noEnergy : Vec F S1x1 .f32 := broadcast S1x1 (FloatOps.ofBits .f32 0x00000000#32)

variable (c : Dev nD) (i : grid1.Coords) (arg1 : Memref sig .tc .vmem S1024x256 .f32) (harg1 : arg1.IsWhole) (arg2 : Memref sig .tc .vmem S4x1024x256 .f32) (harg2 : arg2.IsWhole) (arg3 : Memref sig .tc .vmem S4x1024x256 .bf16) (harg3 : arg3.IsWhole) (arg4 : Memref sig .tc .vmem S4x1024x256 .bf16) (harg4 : arg4.IsWhole) (arg5 : Memref sig .tc .vmem S4x1024 .i32) (harg5 : arg5.IsWhole) (arg6 : Memref sig .tc .vmem S1024x256 .f32) (harg6 : arg6.IsWhole) (arg7 : Memref sig .tc .vmem S1x1 .f32) (harg7 : arg7.IsWhole)
variable (x0 : Vec F S1024x256 .f32) (x1 : Vec F S4x1024x256 .f32) (x2 x3 : Vec F S4x1024x256 .bf16) (xo : Vec F S1x1 .f32)

/-! The first point (`A`), which resets the energy, and every later one (`B`). -/

theorem outA4 (hc : cond1_0 i) : out1_A_4 c i arg1 harg1 arg2 harg2 arg3 harg3 arg4 harg4 arg5 harg5 arg6 harg6 arg7 harg7 hc x0 x1 x2 x3 = words x0 x1 x2 x3 := by
  unfold out1_A_4
  rw [View.read_writes_eq_canon _ _ _ (cover1_A_4 c i arg1 harg1 arg2 harg2 arg3 harg3 arg4 harg4 arg5 harg5 arg6 harg6 arg7 harg7 hc x0 x1 x2 x3)]
  unfold kernelRun1_A
  dsimp only
  sl_unfold_words
  simp only [View.readAt_eq_ld, harg1.read_unread, harg2.read_unread, harg3.read_unread, harg4.read_unread,
    word1a, rest1a, spent1a, word1b, rest1b, spent1b, word2a, rest2a, spent2a, word2b, rest2b, spent2b, word3a, rest3a, spent3a, word3b, rest3b, spent3b,
    word4a, rest4a, spent4a, word4b, rest4b, spent4b, last_a]
  rfl

theorem outA5 (hc : cond1_0 i) : out1_A_5 c i arg1 harg1 arg2 harg2 arg3 harg3 arg4 harg4 arg5 harg5 arg6 harg6 arg7 harg7 hc x0 x1 x2 x3 = decoded x0 x1 x2 x3 := by
  unfold out1_A_5
  rw [View.read_writes_eq_canon _ _ _ (cover1_A_5 c i arg1 harg1 arg2 harg2 arg3 harg3 arg4 harg4 arg5 harg5 arg6 harg6 arg7 harg7 hc x0 x1 x2 x3)]
  unfold kernelRun1_A
  dsimp only
  sl_unfold_words
  simp only [View.readAt_eq_ld, harg1.read_unread, harg2.read_unread, harg3.read_unread, harg4.read_unread,
    word1a, rest1a, spent1a, word1b, rest1b, spent1b, word2a, rest2a, spent2a, word2b, rest2b, spent2b, word3a, rest3a, spent3a, word3b, rest3b, spent3b,
    word4a, rest4a, spent4a, word4b, rest4b, spent4b, last_a]
  rfl

theorem outA6 (hc : cond1_0 i) : out1_A_6 c i arg1 harg1 arg2 harg2 arg3 harg3 arg4 harg4 arg5 harg5 arg6 harg6 arg7 harg7 hc x0 x1 x2 x3 = energyBlock noEnergy (pointEnergy x0 x1 x2 x3) := by
  unfold out1_A_6
  rw [View.read_writes_eq_canon _ _ _ (cover1_A_6 c i arg1 harg1 arg2 harg2 arg3 harg3 arg4 harg4 arg5 harg5 arg6 harg6 arg7 harg7 hc x0 x1 x2 x3)]
  unfold kernelRun1_A
  dsimp only
  sl_unfold_words
  rw [View.canon_cons_unit_zero (S := S1x1) hz, View.readCov_unit_zero (S := S1x1) _ hz]
  unfold k1_pay2 k1_pay1
  simp only [View.readAt_eq_ld, harg1.read_unread, harg2.read_unread, harg3.read_unread, harg4.read_unread, harg7.read_unread, View.ld_unit_zero (S := S1x1) hz, shapeCast_self,
    word1a, rest1a, spent1a, word1b, rest1b, spent1b, word2a, rest2a, spent2a, word2b, rest2b, spent2b, word3a, rest3a, spent3a, word3b, rest3b, spent3b,
    word4a, rest4a, spent4a, word4b, rest4b, spent4b, last_a]
  rfl

theorem outB4 (hc : ¬cond1_0 i) : out1_B_4 c i arg1 harg1 arg2 harg2 arg3 harg3 arg4 harg4 arg5 harg5 arg6 harg6 arg7 harg7 hc x0 x1 x2 x3 xo = words x0 x1 x2 x3 := by
  unfold out1_B_4
  rw [View.read_writes_eq_canon _ _ _ (cover1_B_4 c i arg1 harg1 arg2 harg2 arg3 harg3 arg4 harg4 arg5 harg5 arg6 harg6 arg7 harg7 hc x0 x1 x2 x3 xo)]
  unfold kernelRun1_B
  dsimp only
  sl_unfold_words
  simp only [View.readAt_eq_ld, harg1.read_unread, harg2.read_unread, harg3.read_unread, harg4.read_unread,
    word1a, rest1a, spent1a, word1b, rest1b, spent1b, word2a, rest2a, spent2a, word2b, rest2b, spent2b, word3a, rest3a, spent3a, word3b, rest3b, spent3b,
    word4a, rest4a, spent4a, word4b, rest4b, spent4b, last_a]
  rfl

theorem outB5 (hc : ¬cond1_0 i) : out1_B_5 c i arg1 harg1 arg2 harg2 arg3 harg3 arg4 harg4 arg5 harg5 arg6 harg6 arg7 harg7 hc x0 x1 x2 x3 xo = decoded x0 x1 x2 x3 := by
  unfold out1_B_5
  rw [View.read_writes_eq_canon _ _ _ (cover1_B_5 c i arg1 harg1 arg2 harg2 arg3 harg3 arg4 harg4 arg5 harg5 arg6 harg6 arg7 harg7 hc x0 x1 x2 x3 xo)]
  unfold kernelRun1_B
  dsimp only
  sl_unfold_words
  simp only [View.readAt_eq_ld, harg1.read_unread, harg2.read_unread, harg3.read_unread, harg4.read_unread,
    word1a, rest1a, spent1a, word1b, rest1b, spent1b, word2a, rest2a, spent2a, word2b, rest2b, spent2b, word3a, rest3a, spent3a, word3b, rest3b, spent3b,
    word4a, rest4a, spent4a, word4b, rest4b, spent4b, last_a]
  rfl

theorem outB6 (hc : ¬cond1_0 i) : out1_B_6 c i arg1 harg1 arg2 harg2 arg3 harg3 arg4 harg4 arg5 harg5 arg6 harg6 arg7 harg7 hc x0 x1 x2 x3 xo = energyBlock xo (pointEnergy x0 x1 x2 x3) := by
  unfold out1_B_6
  rw [View.read_writes_eq_canon _ _ _ (cover1_B_6 c i arg1 harg1 arg2 harg2 arg3 harg3 arg4 harg4 arg5 harg5 arg6 harg6 arg7 harg7 hc x0 x1 x2 x3 xo)]
  unfold kernelRun1_B
  dsimp only
  sl_unfold_words
  rw [View.canon_unit_zero hz]
  unfold k1_pay2
  simp only [View.readAt_eq_ld, harg1.read_unread, harg2.read_unread, harg3.read_unread, harg4.read_unread, harg7.read_unread, View.ld_unit_zero (S := S1x1) hz, shapeCast_self,
    word1a, rest1a, spent1a, word1b, rest1b, spent1b, word2a, rest2a, spent2a, word2b, rest2b, spent2b, word3a, rest3a, spent3a, word3b, rest3b, spent3b,
    word4a, rest4a, spent4a, word4b, rest4b, spent4b, last_a]
  rfl

end Cert.KernelIdeal.Block
-- ==== Proof.BodyValue.lean ====
/-
  What one grid point of the main call leaves, read over the reals.
-/
module

public import proofs.«01_k».proof.Proof.BlockValue
public import proofs.«01_k».proof.Proof.Prep
public import proofs.«01_k».proof.Proof.Body

@[expose] public section

set_option maxRecDepth 16384

noncomputable section

namespace Cert.KernelIdeal.Block

open Idealize.ShloMosaic Idealize.ShloMosaic.TcCoe Idealize.SL.Sem Cert.KernelIdeal Cert.KernelIdeal.Gen

/-- Row `n` of half `h` of a block of 1024 rows. -/
def row (h : Fin 2) (n : Fin 512) : Fin 1024 := ⟨h.val * 512 + n.val, by omega⟩

theorem emb_half (o : ℕ) (h : Fin 2) (ho : o = h.val * 512) (hb) (n : Fin 512) (d : Fin 256) :
    (Rect.unit (s := S1024x256) ![o, 0] S512x256.size hb).emb (ix2 n d) = ix2 (row h n) d := by
  subst ho
  funext a
  apply Fin.ext
  fin_cases a <;> simp [Rect.emb, Rect.unit, ix2, row]

theorem half_apply (x : Vec Ideal S1024x256 .f32) (h : Fin 2) (n : Fin 512) (d : Fin 256) : half x h (ix2 n d) = x (ix2 (row h n) d) := by
  fin_cases h
  · exact congrArg x (emb_half 0 0 rfl _ n d)
  · exact congrArg x (emb_half 512 1 rfl _ n d)

section Half

variable (cb : Vec Ideal S4x1024x256 .f32) (hi lo : Vec Ideal S4x1024x256 .bf16) (r : FVec Ideal S512x256 .f32)
  (C : Fin 4 → Spec.Book) (R : Fin 512 → Spec.Row)
  (hcb : ∀ l k d, cb (ix3 l k d) = ((Spec.unit (C l) k d : ℝ) : EReal))
  (hhi : ∀ l k d, hi (ix3 l k d) = ((C l k d : ℝ) : EReal))
  (hlo : ∀ l k d, lo (ix3 l k d) = 0)
  (hr : ∀ n d, r (ix2 n d) = ((R n d : ℝ) : EReal))

include hcb hr in
theorem stage_pick (l : Fin 4) (n : Fin 512) : pick (slot cb l) r (ix1 n) = (((Spec.pick (C l) (R n)).val : ℝ) : EReal) :=
  pick_apply (slot cb l) r (C l) R (fun k d => (slot_apply cb l k d).trans (hcb l k d)) hr n

include hcb hhi hlo hr in
theorem stage_rest (l : Fin 4) (n : Fin 512) (d : Fin 256) :
    rest (slot cb l) (slot hi l) (slot lo l) r (ix2 n d) = ((Spec.rest (C l) (R n) d : ℝ) : EReal) :=
  rest_apply (slot cb l) (slot hi l) (slot lo l) r (C l) R (fun k d => (slot_apply cb l k d).trans (hcb l k d))
    (fun k d => (slot_apply hi l k d).trans (hhi l k d)) (fun k d => (slot_apply lo l k d).trans (hlo l k d)) hr n d

include hcb hhi hlo hr

theorem left1_apply (n : Fin 512) (d : Fin 256) : left1 cb hi lo r (ix2 n d) = ((Spec.left1 C (R n) d : ℝ) : EReal) :=
  stage_rest cb hi lo r C R hcb hhi hlo hr 0 n d
theorem left2_apply (n : Fin 512) (d : Fin 256) : left2 cb hi lo r (ix2 n d) = ((Spec.left2 C (R n) d : ℝ) : EReal) :=
  stage_rest cb hi lo _ C _ hcb hhi hlo (left1_apply cb hi lo r C R hcb hhi hlo hr) 1 n d
theorem left3_apply (n : Fin 512) (d : Fin 256) : left3 cb hi lo r (ix2 n d) = ((Spec.left3 C (R n) d : ℝ) : EReal) :=
  stage_rest cb hi lo _ C _ hcb hhi hlo (left2_apply cb hi lo r C R hcb hhi hlo hr) 2 n d
theorem left4_apply (n : Fin 512) (d : Fin 256) : left4 cb hi lo r (ix2 n d) = ((Spec.left4 C (R n) d : ℝ) : EReal) :=
  stage_rest cb hi lo _ C _ hcb hhi hlo (left3_apply cb hi lo r C R hcb hhi hlo hr) 3 n d

theorem word1_apply (n : Fin 512) : word (pick1 cb r) (ix2 (0 : Fin 1) n) = BitVec.ofNat 32 (Spec.ids C (R n) 0).val :=
  word_apply _ n _ (Fin.isLt _) (stage_pick cb r C R hcb hr 0 n)
theorem word2_apply (n : Fin 512) : word (pick2 cb hi lo r) (ix2 (0 : Fin 1) n) = BitVec.ofNat 32 (Spec.ids C (R n) 1).val :=
  word_apply _ n _ (Fin.isLt _) (stage_pick cb _ C _ hcb (left1_apply cb hi lo r C R hcb hhi hlo hr) 1 n)
theorem word3_apply (n : Fin 512) : word (pick3 cb hi lo r) (ix2 (0 : Fin 1) n) = BitVec.ofNat 32 (Spec.ids C (R n) 2).val :=
  word_apply _ n _ (Fin.isLt _) (stage_pick cb _ C _ hcb (left2_apply cb hi lo r C R hcb hhi hlo hr) 2 n)
theorem word4_apply (n : Fin 512) : word (pick4 cb hi lo r) (ix2 (0 : Fin 1) n) = BitVec.ofNat 32 (Spec.ids C (R n) 3).val :=
  word_apply _ n _ (Fin.isLt _) (stage_pick cb _ C _ hcb (left3_apply cb hi lo r C R hcb hhi hlo hr) 3 n)

theorem spent_eq : spent cb hi lo r = ((∑ n, Spec.spent C (R n) : ℝ) : EReal) := by
  unfold spent
  rw [energy_apply _ _ (left1_apply cb hi lo r C R hcb hhi hlo hr), energy_apply _ _ (left2_apply cb hi lo r C R hcb hhi hlo hr),
    energy_apply _ _ (left3_apply cb hi lo r C R hcb hhi hlo hr), energy_apply _ _ (left4_apply cb hi lo r C R hcb hhi hlo hr)]
  simp only [Ideal.scalar_addf_def, Ideal.ofBits_def, Spec.zero_coe, zero_add, ← EReal.coe_add, Spec.spent, Finset.sum_add_distrib]

theorem decoded_half (n : Fin 512) (d : Fin 256) :
    subf r (left4 cb hi lo r) (ix2 n d) = ((R n d - Spec.left4 C (R n) d : ℝ) : EReal) := by
  have h := left4_apply cb hi lo r C R hcb hhi hlo hr n d
  pointwise
  rw [hr, h, ← EReal.coe_sub]

end Half

section Point

variable (x : Vec Ideal S1024x256 .f32) (cb : Vec Ideal S4x1024x256 .f32) (hi lo : Vec Ideal S4x1024x256 .bf16)
  (C : Fin 4 → Spec.Book) (R : Fin 1024 → Spec.Row)
  (hx : ∀ n d, x (ix2 n d) = ((R n d : ℝ) : EReal))
  (hcb : ∀ l k d, cb (ix3 l k d) = ((Spec.unit (C l) k d : ℝ) : EReal))
  (hhi : ∀ l k d, hi (ix3 l k d) = ((C l k d : ℝ) : EReal))
  (hlo : ∀ l k d, lo (ix3 l k d) = 0)

include hx in
theorem half_rows (h : Fin 2) (n : Fin 512) (d : Fin 256) : half x h (ix2 n d) = ((R (row h n) d : ℝ) : EReal) :=
  (half_apply x h n d).trans (hx _ _)

theorem emb_word (l : ℕ) (hl : l < 4) (o : ℕ) (h : Fin 2) (ho : o = h.val * 512) (hb) (n : Fin 512) :
    (Rect.unit (s := S4x1024) ![l, o] S1x512.size hb).emb (ix2 (0 : Fin 1) n) = ix2 (⟨l, hl⟩ : Fin 4) (row h n) := by
  subst ho
  funext a
  apply Fin.ext
  fin_cases a <;> simp [Rect.emb, Rect.unit, ix2, row]

include hx hcb hhi hlo

theorem words_apply (l : Fin 4) (n : Fin 1024) : words x cb hi lo (ix2 l n) = BitVec.ofNat 32 (Spec.ids C (R n) l).val := by
  unfold words
  refine View.canon_apply_of_pieces (Val := Elt Ideal) (e := .i32) (fun y : S4x1024.Idx => BitVec.ofNat 32 (Spec.ids C (R (y 1)) (y 0)).val) _ ?_ _ ?_
  swap
  · exact View.cover_of_tiled (s := S4x1024) _ S1x512.size (by rfl) _
  intro p hp
  simp only [List.mem_cons, List.not_mem_nil, or_false] at hp
  rcases hp with rfl | rfl | rfl | rfl | rfl | rfl | rfl | rfl
  all_goals
    intro y
    obtain ⟨k, rfl⟩ : ∃ (k : Fin 512), y = ix2 (0 : Fin 1) k := by
      idx_vars y
      exact ⟨_, by congr 1; exact Subsingleton.elim _ _⟩
  · rw [emb_word 3 (by omega) 512 1 rfl]
    exact word4_apply cb hi lo _ C _ hcb hhi hlo (half_rows x R hx 1) k
  · rw [emb_word 3 (by omega) 0 0 rfl]
    exact word4_apply cb hi lo _ C _ hcb hhi hlo (half_rows x R hx 0) k
  · rw [emb_word 2 (by omega) 512 1 rfl]
    exact word3_apply cb hi lo _ C _ hcb hhi hlo (half_rows x R hx 1) k
  · rw [emb_word 2 (by omega) 0 0 rfl]
    exact word3_apply cb hi lo _ C _ hcb hhi hlo (half_rows x R hx 0) k
  · rw [emb_word 1 (by omega) 512 1 rfl]
    exact word2_apply cb hi lo _ C _ hcb hhi hlo (half_rows x R hx 1) k
  · rw [emb_word 1 (by omega) 0 0 rfl]
    exact word2_apply cb hi lo _ C _ hcb hhi hlo (half_rows x R hx 0) k
  · rw [emb_word 0 (by omega) 512 1 rfl]
    exact word1_apply cb hi lo _ C _ hcb hhi hlo (half_rows x R hx 1) k
  · rw [emb_word 0 (by omega) 0 0 rfl]
    exact word1_apply cb hi lo _ C _ hcb hhi hlo (half_rows x R hx 0) k

theorem decoded_apply (n : Fin 1024) (d : Fin 256) :
    decoded x cb hi lo (ix2 n d) = ((R n d - Spec.left4 C (R n) d : ℝ) : EReal) := by
  unfold decoded
  refine View.canon_apply_of_pieces (Val := Elt Ideal) (e := .f32)
    (fun y : S1024x256.Idx => ((R (y 0) (y 1) - Spec.left4 C (R (y 0)) (y 1) : ℝ) : EReal)) _ ?_ _ ?_
  swap
  · exact View.cover_of_tiled (s := S1024x256) _ S512x256.size (by rfl) _
  intro p hp
  simp only [List.mem_cons, List.not_mem_nil, or_false] at hp
  rcases hp with rfl | rfl
  all_goals
    intro y
    obtain ⟨k, d, rfl⟩ : ∃ (k : Fin 512) (d : Fin 256), y = ix2 k d := by
      idx_vars y
      exact ⟨_, _, rfl⟩
  · rw [emb_half 512 1 rfl]
    exact decoded_half cb hi lo _ C _ hcb hhi hlo (half_rows x R hx 1) k d
  · rw [emb_half 0 0 rfl]
    exact decoded_half cb hi lo _ C _ hcb hhi hlo (half_rows x R hx 0) k d

theorem pointEnergy_eq : pointEnergy x cb hi lo = ((∑ n, Spec.spent C (R n) : ℝ) : EReal) := by
  unfold pointEnergy
  rw [spent_eq cb hi lo _ C _ hcb hhi hlo (half_rows x R hx 0), spent_eq cb hi lo _ C _ hcb hhi hlo (half_rows x R hx 1)]
  have hs : (∑ n : Fin 1024, Spec.spent C (R n)) = (∑ n : Fin 512, Spec.spent C (R (row 0 n))) + ∑ n : Fin 512, Spec.spent C (R (row 1 n)) := by
    refine (Fin.sum_univ_add (a := 512) (b := 512) fun n => Spec.spent C (R n)).trans ?_
    exact congrArg₂ (· + ·) (Finset.sum_congr rfl fun n _ => congrArg (fun k => Spec.spent C (R k)) (Fin.ext (by simp [row])))
      (Finset.sum_congr rfl fun n _ => congrArg (fun k => Spec.spent C (R k)) (Fin.ext (by simp [row, Nat.add_comm])))
  rw [hs, EReal.coe_add]
  simp only [Ideal.scalar_addf_def, Ideal.ofBits_def, Spec.zero_coe, zero_add]

end Point

end Cert.KernelIdeal.Block
-- ==== Proof.Arrays.lean ====
/-
  What the arrays of the two calls hold when each call is over, read over the reals.
-/
module

public import proofs.«01_k».proof.Proof.BodyValue
public import Idealize.ShloMosaic.Lib.Pipeline.ValueKit.Geometry

@[expose] public section

set_option maxRecDepth 16384

noncomputable section

namespace Cert.KernelIdeal.Arrays

open Idealize.ShloMosaic Idealize.ShloMosaic.TcCoe Idealize.SL.Sem Cert.KernelIdeal Cert.KernelIdeal.Gen Cert.KernelIdeal.Block
open Idealize.ShloMosaic.Pipeline (Dat)

/-! ## Where the blocks lie -/

theorem at0_0 : ∀ t : Fin cfg0.N, win0_0.index t = ![0, 0, 0] := (by decide +kernel : ∀ t : Fin grid0.N, win0_0.index t = ![0, 0, 0])
theorem at0_1 : ∀ t : Fin cfg0.N, win0_1.index t = ![0, 0, 0] := (by decide +kernel : ∀ t : Fin grid0.N, win0_1.index t = ![0, 0, 0])
theorem at0_2 : ∀ t : Fin cfg0.N, win0_2.index t = ![0, 0, 0] := (by decide +kernel : ∀ t : Fin grid0.N, win0_2.index t = ![0, 0, 0])
theorem at0_3 : ∀ t : Fin cfg0.N, win0_3.index t = ![0, 0, 0] := (by decide +kernel : ∀ t : Fin grid0.N, win0_3.index t = ![0, 0, 0])
theorem at1_0 : ∀ t : Fin cfg1.N, win1_0.index t = ![t.val, 0] := (by decide +kernel : ∀ t : Fin grid1.N, win1_0.index t = ![t.val, 0])
theorem at1_1 : ∀ t : Fin cfg1.N, win1_1.index t = ![0, 0, 0] := (by decide +kernel : ∀ t : Fin grid1.N, win1_1.index t = ![0, 0, 0])
theorem at1_2 : ∀ t : Fin cfg1.N, win1_2.index t = ![0, 0, 0] := (by decide +kernel : ∀ t : Fin grid1.N, win1_2.index t = ![0, 0, 0])
theorem at1_3 : ∀ t : Fin cfg1.N, win1_3.index t = ![0, 0, 0] := (by decide +kernel : ∀ t : Fin grid1.N, win1_3.index t = ![0, 0, 0])
theorem at1_4 : ∀ t : Fin cfg1.N, win1_4.index t = ![0, t.val] := (by decide +kernel : ∀ t : Fin grid1.N, win1_4.index t = ![0, t.val])
theorem at1_5 : ∀ t : Fin cfg1.N, win1_5.index t = ![t.val, 0] := (by decide +kernel : ∀ t : Fin grid1.N, win1_5.index t = ![t.val, 0])
theorem at1_6 : ∀ t : Fin cfg1.N, win1_6.index t = ![0, 0] := (by decide +kernel : ∀ t : Fin grid1.N, win1_6.index t = ![0, 0])

/-! ## The first call: unit entries, the entries, and their spare parts -/

section First

variable (V : (c : Dev nD) → (b : Ref sig .tc) → Buf (Elt Ideal) ((c : Thread nD τ).loc b)) (c : Dev nD)
  (C : Fin 4 → Spec.Book)

theorem given0 (t : Fin cfg0.N) (y : S4x1024x256.Idx) : iblk0 V c 0 t y = V c main_arg1 y := by
  blk_ext [iblk0, at0_0]

variable (hC : ∀ l k d, V c main_arg1 (ix3 l k d) = ((C l k d : ℝ) : EReal))

include hC

theorem given0_real (t : Fin cfg0.N) (l : Fin 4) (k : Fin 1024) (d : Fin 256) : iblk0 V c 0 t (ix3 l k d) = ((C l k d : ℝ) : EReal) :=
  (given0 V c t _).trans (hC l k d)

/-- An index of the whole array is where the one block puts it. -/
theorem units : (dat0 V c).arrAt 1 cfg0.N = fun y : S4x1024x256.Idx => ((Spec.unit (C (y 0)) (y 1) (y 2) : ℝ) : EReal) := by
  refine (dat0 V c).arrAt_eq_of_covers 1 _ (by decide +kernel) fun t hf y => ?_
  have e : (win0_1.blk t).view.emb y = y := by blk_ext [at0_1]
  blk_simp
  rw [after0_1, e]
  revert y
  intro (y : S4x1024x256.Idx) e
  idx_vars y
  exact units_apply (iblk0 V c 0 t) C (given0_real V c C hC t) _ _ _

theorem entries : (dat0 V c).arrAt 2 cfg0.N = fun y : S4x1024x256.Idx => ((C (y 0) (y 1) (y 2) : ℝ) : EReal) := by
  refine (dat0 V c).arrAt_eq_of_covers 2 _ (by decide +kernel) fun t hf y => ?_
  have e : (win0_2.blk t).view.emb y = y := by blk_ext [at0_2]
  blk_simp
  rw [after0_2, e]
  revert y
  intro (y : S4x1024x256.Idx) e
  idx_vars y
  exact parts_apply (iblk0 V c 0 t) C (given0_real V c C hC t) _ _ _

theorem spares : (dat0 V c).arrAt 3 cfg0.N = fun _ : S4x1024x256.Idx => (0 : EReal) := by
  refine (dat0 V c).arrAt_eq_of_covers 3 _ (by decide +kernel) fun t hf y => ?_
  blk_simp
  rw [after0_3]
  revert y
  intro (y : S4x1024x256.Idx)
  idx_vars y
  exact spares_apply (iblk0 V c 0 t) C (given0_real V c C hC t) _ _ _

end First

/-! ## The second call: sixteen blocks of 1024 rows -/

section Second

variable (V : (c : Dev nD) → (b : Ref sig .tc) → Buf (Elt Ideal) ((c : Thread nD τ).loc b)) (c : Dev nD)

/-- Row `n` of block `t`. -/
def rowAt (t : Fin cfg1.N) (n : Fin 1024) : Fin 16384 := ⟨t.val * 1024 + n.val, by have := lt_of_lt_of_eq t.isLt (show cfg1.N = 16 from N_1); omega⟩

theorem given1 (t : Fin cfg1.N) (n : Fin 1024) (d : Fin 256) : iblk1 V c 0 t (ix2 n d) = V c main_arg0 (ix2 (rowAt t n) d) := by
  blk_ext [iblk1, at1_0, rowAt]
theorem units1 (t : Fin cfg1.N) (y : S4x1024x256.Idx) : iblk1 V c 1 t y = V c main_v0_0 y := by
  blk_ext [iblk1, at1_1]
theorem entries1 (t : Fin cfg1.N) (y : S4x1024x256.Idx) : iblk1 V c 2 t y = V c main_v0_1 y := by
  blk_ext [iblk1, at1_2]
theorem spares1 (t : Fin cfg1.N) (y : S4x1024x256.Idx) : iblk1 V c 3 t y = V c main_v0_2 y := by
  blk_ext [iblk1, at1_3]

/-- What a point stores in the two arrays cut in blocks is the same at the first point and at every later one. -/
theorem stored_words (t : Fin cfg1.N) : (outsAt1 V c t.val t.isLt).1 = words (iblk1 V c 0 t) (iblk1 V c 1 t) (iblk1 V c 2 t) (iblk1 V c 3 t) := by
  by_cases h0 : t.val % 16 = 0
  · rw [outsAt1_A V c t h0]
    dsimp only
    rw [outA4]
  · rw [outsAt1_B V c t h0]
    dsimp only
    rw [outB4]

theorem stored_rows (t : Fin cfg1.N) : (outsAt1 V c t.val t.isLt).2.1 = decoded (iblk1 V c 0 t) (iblk1 V c 1 t) (iblk1 V c 2 t) (iblk1 V c 3 t) := by
  by_cases h0 : t.val % 16 = 0
  · rw [outsAt1_A V c t h0]
    dsimp only
    rw [outA5]
  · rw [outsAt1_B V c t h0]
    dsimp only
    rw [outB5]

variable (X : Fin 16384 → Spec.Row) (C : Fin 4 → Spec.Book)
  (hX : ∀ n d, V c main_arg0 (ix2 n d) = ((X n d : ℝ) : EReal))
  (hU : V c main_v0_0 = fun y : S4x1024x256.Idx => ((Spec.unit (C (y 0)) (y 1) (y 2) : ℝ) : EReal))
  (hE : V c main_v0_1 = fun y : S4x1024x256.Idx => ((C (y 0) (y 1) (y 2) : ℝ) : EReal))
  (hS : V c main_v0_2 = fun _ : S4x1024x256.Idx => (0 : EReal))

/-- The rows of block `t`. -/
def rowsAt (t : Fin cfg1.N) (n : Fin 1024) : Spec.Row := X (rowAt t n)

include hX in
theorem given1_real (t : Fin cfg1.N) (n : Fin 1024) (d : Fin 256) : iblk1 V c 0 t (ix2 n d) = ((rowsAt X t n d : ℝ) : EReal) :=
  (given1 V c t n d).trans (hX _ _)
include hU in
theorem units1_real (t : Fin cfg1.N) (l : Fin 4) (k : Fin 1024) (d : Fin 256) : iblk1 V c 1 t (ix3 l k d) = ((Spec.unit (C l) k d : ℝ) : EReal) :=
  (units1 V c t _).trans (congrFun hU _)
include hE in
theorem entries1_real (t : Fin cfg1.N) (l : Fin 4) (k : Fin 1024) (d : Fin 256) : iblk1 V c 2 t (ix3 l k d) = ((C l k d : ℝ) : EReal) :=
  (entries1 V c t _).trans (congrFun hE _)
include hS in
theorem spares1_real (t : Fin cfg1.N) (l : Fin 4) (k : Fin 1024) (d : Fin 256) : iblk1 V c 3 t (ix3 l k d) = (0 : EReal) :=
  (spares1 V c t _).trans (congrFun hS _)

include hX hU hE hS

theorem ids_array : (dat1 V c).arrAt 4 cfg1.N = fun y : S4x16384.Idx => BitVec.ofNat 32 (Spec.ids C (X (y 1)) (y 0)).val := by
  refine (dat1 V c).arrAt_eq_of_covers 4 _ (by decide +kernel) fun t hf y => ?_
  have e : (win1_4.blk t).view.emb y = ix2 (n0 := 4) (n1 := 16384) (y 0) (rowAt t (y 1)) := by blk_ext [at1_4, rowAt]
  blk_simp
  rw [after1_4, stored_words, e]
  revert y
  intro (y : S4x1024.Idx) e
  idx_vars y
  exact words_apply _ _ _ _ C (rowsAt X t) (given1_real V c X hX t) (units1_real V c C hU t) (entries1_real V c C hE t) (spares1_real V c hS t) _ _

theorem rows_array : (dat1 V c).arrAt 5 cfg1.N = fun y : S16384x256.Idx => ((X (y 0) (y 1) - Spec.left4 C (X (y 0)) (y 1) : ℝ) : EReal) := by
  refine (dat1 V c).arrAt_eq_of_covers 5 _ (by decide +kernel) fun t hf y => ?_
  have e : (win1_5.blk t).view.emb y = ix2 (n0 := 16384) (n1 := 256) (rowAt t (y 0)) (y 1) := by blk_ext [at1_5, rowAt]
  blk_simp
  rw [after1_5, stored_rows, e]
  revert y
  intro (y : S1024x256.Idx) e
  idx_vars y
  exact decoded_apply _ _ _ _ C (rowsAt X t) (given1_real V c X hX t) (units1_real V c C hU t) (entries1_real V c C hE t) (spares1_real V c hS t) _ _

/-- What one block adds to the energy. -/
theorem added (t : Fin cfg1.N) : pointEnergy (iblk1 V c 0 t) (iblk1 V c 1 t) (iblk1 V c 2 t) (iblk1 V c 3 t) = ((∑ n, Spec.spent C (rowsAt X t n) : ℝ) : EReal) :=
  pointEnergy_eq _ _ _ _ C (rowsAt X t) (given1_real V c X hX t) (units1_real V c C hU t) (entries1_real V c C hE t) (spares1_real V c hS t)

omit hX hU hE hS in
theorem energyBlock_apply (xo : Vec Ideal S1x1 .f32) (e : Ideal .f32) (y : S1x1.Idx) : energyBlock xo e y = (xo y : EReal) + e := rfl

omit hX hU hE hS in
theorem noEnergy_apply (y : S1x1.Idx) : (noEnergy : Vec Ideal S1x1 .f32) y = (0 : EReal) := by
  show Ideal.ofBits .f32 0x00000000#32 = _
  exact Spec.zero_coe

/-- What the block of number `k` adds, none after the last. -/
def share (k : ℕ) : ℝ := if h : k < cfg1.N then ∑ n, Spec.spent C (rowsAt X ⟨k, h⟩ n) else 0

/-- After a point the energy block holds what the blocks up to it add. -/
theorem energy_upTo (y : S1x1.Idx) : ∀ (k : ℕ) (h : k < cfg1.N), (outsAt1 V c k h).2.2 y = ((∑ i ∈ Finset.range (k + 1), share X C i : ℝ) : EReal)
  | 0, h => by
    have h0 := outsAt1_A V c ⟨0, h⟩ rfl
    dsimp only at h0
    rw [h0]
    dsimp only
    rw [outA6, energyBlock_apply, noEnergy_apply, added V c X C hX hU hE hS, zero_add, Finset.sum_range_one, share, dif_pos h]
  | k + 1, h => by
    have hN : cfg1.N = 16 := N_1
    have h1 := outsAt1_B V c ⟨k + 1, h⟩ (by dsimp only; omega)
    dsimp only at h1
    rw [h1]
    dsimp only
    rw [outB6, energyBlock_apply, added V c X C hX hU hE hS]
    have ih := energy_upTo y k (Nat.lt_of_succ_lt h)
    simp only [Nat.add_sub_cancel]
    rw [ih, Finset.sum_range_succ _ (k + 1), EReal.coe_add, share, dif_pos h]

omit hX hU hE hS in
/-- Sixteen blocks of 1024 rows are the 16384 rows. -/
theorem share_sum : ∑ i ∈ Finset.range 16, share X C i = ∑ n, Spec.spent C (X n) := by
  have hN : cfg1.N = 16 := N_1
  rw [Finset.sum_range]
  have e := (Equiv.sum_comp (finProdFinEquiv (m := 16) (n := 1024)) fun n : Fin 16384 => Spec.spent C (X n)).symm
  refine Eq.trans ?_ e.symm
  rw [Fintype.sum_prod_type]
  refine Finset.sum_congr rfl fun i _ => ?_
  rw [share, dif_pos (by omega)]
  refine Finset.sum_congr rfl fun n _ => ?_
  refine congrArg (fun k => Spec.spent C (X k)) (Fin.ext ?_)
  show i.val * 1024 + n.val = n.val + 1024 * i.val
  omega

theorem energy_array : (dat1 V c).arrAt 6 cfg1.N = fun _ : S1x1.Idx => ((∑ n, Spec.spent C (X n) : ℝ) : EReal) := by
  refine (dat1 V c).arrAt_eq_of_covers 6 _ (by decide +kernel) fun t hf y => ?_
  have hN : cfg1.N = 16 := N_1
  have ht : t.val = 15 := by have := (flush1_6 t).mp hf; have := t.isLt; omega
  blk_simp
  rw [after1_6]
  revert y
  intro (y : S1x1.Idx)
  refine (energy_upTo V c X C hX hU hE hS _ t.val t.isLt).trans ?_
  rw [ht, share_sum]

end Second

end Cert.KernelIdeal.Arrays
-- ==== Proof.Run.lean ====
/-
  The run of the kernel's program: what its three results hold when every core has ended.
-/
module

public import proofs.«01_k».proof.Proof.Arrays
public import Idealize.ShloMosaic.Lib.StableHlo.RunRead

@[expose] public section

set_option maxRecDepth 16384

noncomputable section

namespace Cert.KernelIdeal.Arrays

open Idealize.ShloMosaic Idealize.ShloMosaic.TcCoe Idealize.ShloMosaic.StableHlo Idealize.SL Idealize.SL.Sem Idealize.SL.RA Cert.KernelIdeal Cert.KernelIdeal.Gen Cert.KernelIdeal.Block
open Idealize.SL.BI Idealize.SL.BI.BIBase Idealize.SL.BI.Laws Idealize.SL.ProofMode
open scoped Idealize.SL.BI
open Idealize.ShloMosaic.Rounds
open Idealize.ShloMosaic.Pipeline (Dat Cfg Window BodyObligation cellOf)

section Held

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer that outlives the calls ends at the contents the last stretch of the host leaves. -/
theorem held : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

/-! The host's last stretch: the ids turned, the energy scaled. -/

theorem ids_out (c : Dev nD) : W3 m ρ c (Proc.devRef .tc main_v2) = transpose S16384x4 [1, 0] (W2 m ρ c (Proc.devRef .tc main_v1_0)) transposes_S4x16384_S16384x4_1_0 := by
  simp only [W3, hostOps2]
  after_reads_simp

theorem energy_out (c : Dev nD) : W3 m ρ c (Proc.devRef .tc main_v4)
    = mulf (shapeCast S_ (W2 m ρ c (Proc.devRef .tc main_v1_2)) shapeCasts_S1x1_S_) (constant S_ .f32 0x34A00000#32) := by
  simp only [W3, hostOps2]
  after_reads_simp
  rfl

end Held

/-! ## The results over the reals -/

section Values

variable (m : (ℓ : Loc nD τ sig) → Buf (Elt Ideal) ℓ) (ρ : Dev nD → PrngReg) (c : Dev nD)
  (X : Fin 16384 → Spec.Row) (C : Fin 4 → Spec.Book)
  (hX : ∀ n d, m ((c : Thread nD τ).loc main_arg0) (ix2 n d) = ((X n d : ℝ) : EReal))
  (hC : ∀ l k d, m ((c : Thread nD τ).loc main_arg1) (ix3 l k d) = ((C l k d : ℝ) : EReal))

include hX in
theorem rows_in (n : Fin 16384) (d : Fin 256) : V1 m ρ c main_arg0 (ix2 n d) = ((X n d : ℝ) : EReal) :=
  (congrFun (W1_args m ρ c main_arg0 (by decide)) _).trans (hX n d)

include hC

theorem units_in : V1 m ρ c main_v0_0 = fun y : S4x1024x256.Idx => ((Spec.unit (C (y 0)) (y 1) (y 2) : ℝ) : EReal) :=
  (W1_arr m ρ c 1).trans (units (V0 m ρ) c C hC)
theorem entries_in : V1 m ρ c main_v0_1 = fun y : S4x1024x256.Idx => ((C (y 0) (y 1) (y 2) : ℝ) : EReal) :=
  (W1_arr m ρ c 2).trans (entries (V0 m ρ) c C hC)
theorem spares_in : V1 m ρ c main_v0_2 = fun _ : S4x1024x256.Idx => (0 : EReal) :=
  (W1_arr m ρ c 3).trans (spares (V0 m ρ) c C hC)

include hX

/-- The first result: the entries chosen, a row's four side by side. -/
theorem ids_value : W3 m ρ c (Proc.devRef .tc main_v2) = fun y : S16384x4.Idx => BitVec.ofNat 32 (Spec.ids C (X (y 0)) (y 1)).val := by
  rw [ids_out, show W2 m ρ c (Proc.devRef .tc main_v1_0) = _ from
    (W2_arr m ρ c 4).trans (ids_array (V1 m ρ) c X C (rows_in m ρ c X hX) (units_in m ρ c C hC) (entries_in m ρ c C hC) (spares_in m ρ c C hC))]
  funext (y : S16384x4.Idx)
  idx_vars y
  pointwise

/-- The second result: the rows less what four stages leave of them. -/
theorem rows_value : W3 m ρ c (Proc.devRef .tc main_v1_1) = fun y : S16384x256.Idx => ((X (y 0) (y 1) - Spec.left4 C (X (y 0)) (y 1) : ℝ) : EReal) :=
  (W3_of m ρ c main_v1_1 (by decide)).trans <| (W2_arr m ρ c 5).trans
    (rows_array (V1 m ρ) c X C (rows_in m ρ c X hX) (units_in m ρ c C hC) (entries_in m ρ c C hC) (spares_in m ρ c C hC))

/-- The third result: the squared lengths left, scaled. -/
theorem cost_value : W3 m ρ c (Proc.devRef .tc main_v4) = fun _ : S_.Idx => (((∑ n, Spec.spent C (X n)) * (5 / 16777216) : ℝ) : EReal) := by
  rw [energy_out, show W2 m ρ c (Proc.devRef .tc main_v1_2) = _ from
    (W2_arr m ρ c 6).trans (energy_array (V1 m ρ) c X C (rows_in m ρ c X hX) (units_in m ρ c C hC) (entries_in m ρ c C hC) (spares_in m ρ c C hC))]
  funext (y : S_.Idx)
  refine Eq.trans (b := ((∑ n, Spec.spent C (X n) : ℝ) : EReal) * Ideal.ofBits .f32 0x34A00000#32) rfl ?_
  rw [Spec.share_coe, ← EReal.coe_mul]

end Values

/-- The run: the three results in terms of the arguments, and the arguments as given. -/
theorem values (m : (ℓ : Loc nD τ sig) → Buf (Elt Ideal) ℓ) (ρ : Dev nD → PrngReg) (X : Dev nD → Fin 16384 → Spec.Row) (C : Dev nD → Fin 4 → Spec.Book)
    (hX : ∀ (c : Dev nD) n d, m ((c : Thread nD τ).loc main_arg0) (ix2 n d) = ((X c n d : ℝ) : EReal))
    (hC : ∀ (c : Dev nD) l k d, m ((c : Thread nD τ).loc main_arg1) (ix3 l k d) = ((C c l k d : ℝ) : EReal)) :
    θ_run defs (onTc (τ := τ) (main (F := Ideal))) ⟨m, fun _ => 0, ρ⟩ (fun r => ∀ c : Dev nD,
      r.2.mem ((c.tc : Thread nD τ).loc main_v2) = (fun y : S16384x4.Idx => BitVec.ofNat 32 (Spec.ids (C c) (X c (y 0)) (y 1)).val)
      ∧ r.2.mem ((c.tc : Thread nD τ).loc main_v1_1) = (fun y : S16384x256.Idx => ((X c (y 0) (y 1) - Spec.left4 (C c) (X c (y 0)) (y 1) : ℝ) : EReal))
      ∧ r.2.mem ((c.tc : Thread nD τ).loc main_v4) = (fun _ : S_.Idx => (((∑ n, Spec.spent (C c) (X c n)) * (5 / 16777216) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v2 (by decide))).trans (ids_value m ρ c (X c) (C c) (hX c) (hC c)),
     (h c _ (mem_uc main_v1_1 (by decide))).trans (rows_value m ρ c (X c) (C c) (hX c) (hC c)),
     (h c _ (mem_uc main_v4 (by decide))).trans (cost_value m ρ c (X c) (C c) (hX c) (hC c)),
     (h c _ (mem_uc main_arg0 (by decide))).trans (W3_main_arg0 m ρ c),
     (h c _ (mem_uc main_arg1 (by decide))).trans (W3_main_arg1 m ρ c)⟩) (held m ρ)

end Cert.KernelIdeal.Arrays
-- ==== Proof.Finite.lean ====
/-
  What the precondition says over the extended reals: every entry of both arguments is a real number.
-/
module

public import proofs.«01_k».proof.Pre_finite
public import proofs.«01_k».proof.Proof.Spec
public import Idealize.ShloMosaic.Lib.ReduceAll
public import Idealize.ShloMosaic.Lib.Decide

@[expose] public section

set_option maxRecDepth 16384

noncomputable section

namespace Cert.Pre_finite

open Idealize.ShloMosaic Facts

instance facts : Cert.Pre_finite.Facts where
  bcast_S_S16384x256 := by decide
  reducesTo_S16384x256_S_d0_1 := by decide
  h_S_ := by decide
  bcast_S_S4x1024x256 := by decide
  reducesTo_S4x1024x256_S_d0_1_2 := by decide

/-- One number in every place. -/
theorem splat_at {s : Shape} (b : S_.BroadcastsInDim s (![] : Fin 0 → Fin s.rank)) (v : BitVec 32) (i : s.Idx) :
    broadcastInDim s ![] b (constant (F := Ideal) S_ .f32 v) i = Ideal.ofBits .f32 v := rfl

/-- An entry strictly between the infinities is a real number. -/
theorem real_of_between {s : Shape} (b : S_.BroadcastsInDim s (![] : Fin 0 → Fin s.rank)) (x : FVec Ideal s .f32) (i : s.Idx)
    (h : andi (cmpf .olt x (broadcastInDim s ![] b (constant S_ .f32 0x7F800000#32)))
      (cmpf .ogt x (broadcastInDim s ![] b (constant S_ .f32 0xFF800000#32))) i = 1#1) :
    x i = (((x i : EReal).toReal : ℝ) : EReal) := by
  obtain ⟨h1, h2⟩ := IntOp.andi_eq_one.1 h
  have h1' : FloatOps.cmpf (F := Ideal) (φ := .f32) .olt (x i) (broadcastInDim s ![] b (constant S_ .f32 0x7F800000#32) i) = 1#1 := h1
  have h2' : FloatOps.cmpf (F := Ideal) (φ := .f32) .ogt (x i) (broadcastInDim s ![] b (constant S_ .f32 0xFF800000#32) i) = 1#1 := h2
  rw [splat_at, Spec.top_coe] at h1'
  rw [splat_at, Spec.bot_coe] at h2'
  refine (EReal.coe_toReal (fun e => ?_) (fun e => ?_)).symm
  · rw [e] at h1'
    simp [Ideal.cmpf_def, Ideal.cmp] at h1'
  · rw [e] at h2'
    simp [Ideal.cmpf_def, Ideal.cmp] at h2'

instance : Subsingleton S_.Idx := ⟨fun a b => funext fun i => i.elim0⟩

/-- Every entry of both arguments is a real number. -/
theorem reals (x : FVec Ideal S16384x256 .f32) (e : FVec Ideal S4x1024x256 .f32) (h : fn x e = fun _ => 1#1) :
    (∀ i, x i = (((x i : EReal).toReal : ℝ) : EReal)) ∧ ∀ i, e i = (((e i : EReal).toReal : ℝ) : EReal) := by
  have h0 := congrFun h (Shape.Idx.first h_S_)
  dsimp only [fn] at h0
  obtain ⟨h1, h2⟩ := IntOp.andi_eq_one.1 h0
  exact ⟨fun i => real_of_between _ x i (Host.reduce_andi_all _ _ _ _ _ h1 i), fun i => real_of_between _ e i (Host.reduce_andi_all _ _ _ _ _ h2 i)⟩

end Cert.Pre_finite
-- ==== Proof.lean ====
/-
  The certificate: the frames of the kernel, of its idealization and of the reference, the idealization itself, and the equality of
  the three results of the kernel and of the reference, exact arithmetic over finite arguments.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.RefArgs
public import proofs.«01_k».proof.Proof.RefValue
public import proofs.«01_k».proof.Proof.Run
public import proofs.«01_k».proof.Proof.Finite
public import Idealize.ShloMosaic.Adequacy
public import Idealize.ShloMosaic.Init

@[expose] public section

noncomputable section

namespace Cert.Proof

open Idealize.ShloMosaic Idealize.SL.Sem

/-- The reference's frame: its operations write neither argument, and it declares no semaphore. -/
theorem frame_ReferenceIdeal : Cert.quiescent_ReferenceIdeal := fun m ρ _ =>
  (θ_run Cert.ReferenceIdeal.defs _ _).mono
    (fun r h => ⟨fun c => ⟨(h c Cert.ReferenceIdeal.main_arg0).trans (Cert.ReferenceIdeal.Ops.arg0_eq _),
      (h c Cert.ReferenceIdeal.main_arg1).trans (Cert.ReferenceIdeal.Ops.arg1_eq _)⟩,
      Idealize.ShloMosaic.sem_eq_zero_of_no_sems (by decide) r.2⟩)
    (Cert.ReferenceIdeal.Ops.run (F := Ideal) m ρ)

/-- The reference's three results, by its own operations, of the arguments it was given. -/
theorem reference_values (m : (ℓ : Loc Cert.ReferenceIdeal.nD Cert.ReferenceIdeal.τ Cert.ReferenceIdeal.sig) → Buf (Elt Ideal) ℓ)
    (ρ : Dev Cert.ReferenceIdeal.nD → PrngReg)
    (X : Dev Cert.ReferenceIdeal.nD → Fin 16384 → Spec.Row) (C : Dev Cert.ReferenceIdeal.nD → Fin 4 → Spec.Book)
    (hX : ∀ (c : Dev Cert.ReferenceIdeal.nD) n d,
      m ((c.tc : Thread Cert.ReferenceIdeal.nD Cert.ReferenceIdeal.τ).loc Cert.ReferenceIdeal.main_arg0) (ix2 n d) = ((X c n d : ℝ) : EReal))
    (hC : ∀ (c : Dev Cert.ReferenceIdeal.nD) l k d,
      m ((c.tc : Thread Cert.ReferenceIdeal.nD Cert.ReferenceIdeal.τ).loc Cert.ReferenceIdeal.main_arg1) (ix3 l k d) = ((C c l k d : ℝ) : EReal)) :
    θ_run (Cert.ReferenceIdeal.defs (F := Ideal)) (onTc (τ := Cert.ReferenceIdeal.τ) (Cert.ReferenceIdeal.main (F := Ideal))) ⟨m, fun _ => 0, ρ⟩ (fun r =>
      ∀ c : Dev Cert.ReferenceIdeal.nD,
        r.2.mem ((c.tc : Thread Cert.ReferenceIdeal.nD Cert.ReferenceIdeal.τ).loc Cert.ReferenceIdeal.main_v164)
          = (fun y : Cert.ReferenceIdeal.S16384x4.Idx => BitVec.ofNat 32 (Spec.ids (C c) (X c (y 0)) (y 1)).val)
        ∧ r.2.mem ((c.tc : Thread Cert.ReferenceIdeal.nD Cert.ReferenceIdeal.τ).loc Cert.ReferenceIdeal.main_v170)
          = (fun y : Cert.ReferenceIdeal.S16384x256.Idx => ((X c (y 0) (y 1) - Spec.left4 (C c) (X c (y 0)) (y 1) : ℝ) : EReal))
        ∧ r.2.mem ((c.tc : Thread Cert.ReferenceIdeal.nD Cert.ReferenceIdeal.τ).loc Cert.ReferenceIdeal.main_v156)
          = (fun _ : Cert.ReferenceIdeal.S_.Idx => (((∑ n, Spec.spent (C c) (X c n)) * (5 / 16777216) : ℝ) : EReal))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)) :=
  (θ_run Cert.ReferenceIdeal.defs _ _).mono
    (fun r h c => ⟨
      ((h c Cert.ReferenceIdeal.main_v164).trans (Cert.ReferenceIdeal.Stage.ops_ids _)).trans (Cert.ReferenceIdeal.Stage.ids_eq (hC c) (hX c)),
      ((h c Cert.ReferenceIdeal.main_v170).trans (Cert.ReferenceIdeal.Stage.ops_rows _)).trans (Cert.ReferenceIdeal.Stage.rows_eq (hC c) (hX c)),
      ((h c Cert.ReferenceIdeal.main_v156).trans (Cert.ReferenceIdeal.Stage.ops_cost _)).trans (Cert.ReferenceIdeal.Stage.cost_eq (hC c) (hX c)),
      (h c Cert.ReferenceIdeal.main_arg0).trans (Cert.ReferenceIdeal.Ops.arg0_eq _),
      (h c Cert.ReferenceIdeal.main_arg1).trans (Cert.ReferenceIdeal.Ops.arg1_eq _)⟩)
    (Cert.ReferenceIdeal.Ops.run (F := Ideal) m ρ)

/-- The kernel's arguments, entry by entry, under the precondition. -/
theorem arguments_real (m : (ℓ : Loc Cert.KernelIdeal.nD Cert.KernelIdeal.τ Cert.KernelIdeal.sig) → Buf (Elt Ideal) ℓ) (h : Cert.Pre_KernelIdeal_finite m) :
    ∃ (X : Dev Cert.KernelIdeal.nD → Fin 16384 → Spec.Row) (C : Dev Cert.KernelIdeal.nD → Fin 4 → Spec.Book),
      (∀ (c : Dev Cert.KernelIdeal.nD) n d,
        m ((c.tc : Thread Cert.KernelIdeal.nD Cert.KernelIdeal.τ).loc Cert.KernelIdeal.main_arg0) (ix2 n d) = ((X c n d : ℝ) : EReal))
      ∧ ∀ (c : Dev Cert.KernelIdeal.nD) l k d,
        m ((c.tc : Thread Cert.KernelIdeal.nD Cert.KernelIdeal.τ).loc Cert.KernelIdeal.main_arg1) (ix3 l k d) = ((C c l k d : ℝ) : EReal) :=
  ⟨_, _, fun c n d => (Cert.Pre_finite.reals _ _ (h c)).1 (ix2 n d), fun c l k d => (Cert.Pre_finite.reals _ _ (h c)).2 (ix3 l k d)⟩

/-- The kernel and the reference leave the same three results, when no argument holds an infinity. -/
theorem results_equal : Cert.algebraic_KernelIdeal_ReferenceIdeal_pre_finite := by
  intro m g m' g' hpre hargs
  obtain ⟨X, C, hX, hC⟩ := arguments_real m hpre
  have hX' : ∀ (c : Dev Cert.ReferenceIdeal.nD) n d,
      m' ((c.tc : Thread Cert.ReferenceIdeal.nD Cert.ReferenceIdeal.τ).loc Cert.ReferenceIdeal.main_arg0) (ix2 n d) = ((X c n d : ℝ) : EReal) :=
    fun c n d => (congrFun (hargs c).1 (ix2 n d)).trans (hX c n d)
  have hC' : ∀ (c : Dev Cert.ReferenceIdeal.nD) l k d,
      m' ((c.tc : Thread Cert.ReferenceIdeal.nD Cert.ReferenceIdeal.τ).loc Cert.ReferenceIdeal.main_arg1) (ix3 l k d) = ((C c l k d : ℝ) : EReal) :=
    fun c l k d => (congrFun (hargs c).2 (ix3 l k d)).trans (hC c l k d)
  have hk := Cert.KernelIdeal.Arrays.values m g X C hX hC
  have hr := reference_values m' g' X C hX' hC'
  exact ⟨fun c => fun y : Cert.KernelIdeal.S16384x4.Idx => BitVec.ofNat 32 (Spec.ids (C c) (X c (y 0)) (y 1)).val,
    fun c => fun y : Cert.KernelIdeal.S16384x256.Idx => ((X c (y 0) (y 1) - Spec.left4 (C c) (X c (y 0)) (y 1) : ℝ) : EReal),
    fun c => fun _ : Cert.KernelIdeal.S_.Idx => (((∑ n, Spec.spent (C c) (X c n)) * (5 / 16777216) : ℝ) : EReal), hk, hr⟩

theorem claim : Cert.Claim :=
  ⟨Cert.Kernel.Gen.facts, Cert.KernelIdeal.Gen.facts, Cert.ReferenceIdeal.Gen.facts, Cert.Pre_finite.facts,
    fun m ρ _ => Cert.Kernel.Gen.frame m ρ,
    fun m ρ _ => Cert.KernelIdeal.Gen.frame m ρ,
    fun m ρ _ => Cert.KernelIdeal.Gen.frame m ρ,
    frame_ReferenceIdeal,
    fun m ρ _ => frame_ReferenceIdeal m ρ trivial,
    trivial,
    results_equal⟩

end Cert.Proof

end
